-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S992x512 : Shape := ⟨2, ![992, 512]⟩
abbrev S10 : Shape := ⟨1, ![10]⟩
abbrev S_ : Shape := ⟨0, ![]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x256x512 : Shape := ⟨3, ![1, 256, 512]⟩
abbrev S1 : Shape := ⟨1, ![1]⟩
abbrev S128x512 : Shape := ⟨2, ![128, 512]⟩
abbrev S64x512 : Shape := ⟨2, ![64, 512]⟩
abbrev S32x512 : Shape := ⟨2, ![32, 512]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .f32⟩
  | .local _ .vmem, ⟨0, _⟩ => ⟨S1024x256, .bf16⟩
  | .local _ .vmem, ⟨1, _⟩ => ⟨S256x128, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .f32⟩
  | .local _ .vmem, ⟨6, _⟩ => ⟨S1024x512, .bf16⟩
  | .local _ .vmem, ⟨7, _⟩ => ⟨S992x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 2 26 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v69 : BitVec 32 := Scalar.muli v19 c8_i32_30
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v70 : BitVec 32 := Scalar.muli v46 c2_i32_31
  let v71 : BitVec 32 := Scalar.addi v69 v70
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v68 : BitVec 32 := Scalar.subi c1_i32_29 v67
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_113 : BitVec 32 := 1#32
  let v223 : BitVec 32 := Scalar.muli v83 c1_i32_113
  let v224 : BitVec 32 := Scalar.addi c0_i32_114 v223
  v224.toNat
def k0_dev2 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v85 : BitVec 32 := Scalar.muli v19 c8_i32_39
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_38 : BitVec 32 := 1#32
  let v84 : BitVec 32 := Scalar.xori v46 c1_i32_38
  let c2_i32_40 : BitVec 32 := 2#32
  let v86 : BitVec 32 := Scalar.muli v84 c2_i32_40
  let v87 : BitVec 32 := Scalar.addi v85 v86
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi v84 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : BitVec 32 := Scalar.xori v67 v97
  let v99 : BitVec 32 := Scalar.addi v87 v98
  let c1_i32_116 : BitVec 32 := 1#32
  let v225 : BitVec 32 := Scalar.muli v99 c1_i32_116
  let v226 : BitVec 32 := Scalar.addi c0_i32_117 v225
  v226.toNat
def k0_dev3 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v111 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_53 : BitVec 32 := 2#32
  let v110 : BitVec 32 := Scalar.xori v46 c2_i32_53
  let c2_i32_55 : BitVec 32 := 2#32
  let v112 : BitVec 32 := Scalar.muli v110 c2_i32_55
  let v113 : BitVec 32 := Scalar.addi v111 v112
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_56 : BitVec 32 := 2#32
  let c0_i32_57 : BitVec 32 := 0#32
  let v114 : BitVec 1 := Scalar.cmpi .eq c2_i32_56 c0_i32_57
  let c1_i32_58 : BitVec 32 := 1#32
  let v115 : BitVec 32 := Scalar.select v114 c1_i32_58 c2_i32_56
  let v116 : BitVec 32 := Scalar.remsi v110 v115
  let c0_i32_60 : BitVec 32 := 0#32
  let v118 : BitVec 1 := Scalar.cmpi .slt v116 c0_i32_60
  let c0_i32_61 : BitVec 32 := 0#32
  let v119 : BitVec 1 := Scalar.cmpi .slt v115 c0_i32_61
  let v120 : BitVec 1 := Scalar.xori v118 v119
  let c0_i32_59 : BitVec 32 := 0#32
  let v117 : BitVec 1 := Scalar.cmpi .ne v116 c0_i32_59
  let v121 : BitVec 1 := Scalar.andi v120 v117
  let v122 : BitVec 32 := Scalar.addi v116 v115
  let v123 : BitVec 32 := Scalar.select v121 v122 v116
  let v124 : BitVec 32 := Scalar.xori v67 v123
  let v125 : BitVec 32 := Scalar.addi v113 v124
  let c1_i32_119 : BitVec 32 := 1#32
  let v227 : BitVec 32 := Scalar.muli v125 c1_i32_119
  let v228 : BitVec 32 := Scalar.addi c0_i32_120 v227
  v228.toNat
def k0_dev4 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_75 : BitVec 32 := 1#32
  let v153 : BitVec 32 := Scalar.xori v19 c1_i32_75
  let c8_i32_76 : BitVec 32 := 8#32
  let v154 : BitVec 32 := Scalar.muli v153 c8_i32_76
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_77 : BitVec 32 := 2#32
  let v155 : BitVec 32 := Scalar.muli v46 c2_i32_77
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v46 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_122 : BitVec 32 := 1#32
  let v229 : BitVec 32 := Scalar.muli v168 c1_i32_122
  let v230 : BitVec 32 := Scalar.addi c0_i32_123 v229
  v230.toNat
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_90 : BitVec 32 := 2#32
  let v179 : BitVec 32 := Scalar.xori v19 c2_i32_90
  let c8_i32_91 : BitVec 32 := 8#32
  let v180 : BitVec 32 := Scalar.muli v179 c8_i32_91
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_92 : BitVec 32 := 2#32
  let v181 : BitVec 32 := Scalar.muli v46 c2_i32_92
  let v182 : BitVec 32 := Scalar.addi v180 v181
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_93 : BitVec 32 := 2#32
  let c0_i32_94 : BitVec 32 := 0#32
  let v183 : BitVec 1 := Scalar.cmpi .eq c2_i32_93 c0_i32_94
  let c1_i32_95 : BitVec 32 := 1#32
  let v184 : BitVec 32 := Scalar.select v183 c1_i32_95 c2_i32_93
  let v185 : BitVec 32 := Scalar.remsi v46 v184
  let c0_i32_97 : BitVec 32 := 0#32
  let v187 : BitVec 1 := Scalar.cmpi .slt v185 c0_i32_97
  let c0_i32_98 : BitVec 32 := 0#32
  let v188 : BitVec 1 := Scalar.cmpi .slt v184 c0_i32_98
  let v189 : BitVec 1 := Scalar.xori v187 v188
  let c0_i32_96 : BitVec 32 := 0#32
  let v186 : BitVec 1 := Scalar.cmpi .ne v185 c0_i32_96
  let v190 : BitVec 1 := Scalar.andi v189 v186
  let v191 : BitVec 32 := Scalar.addi v185 v184
  let v192 : BitVec 32 := Scalar.select v190 v191 v185
  let v193 : BitVec 32 := Scalar.xori v67 v192
  let v194 : BitVec 32 := Scalar.addi v182 v193
  let c1_i32_125 : BitVec 32 := 1#32
  let v231 : BitVec 32 := Scalar.muli v194 c1_i32_125
  let v232 : BitVec 32 := Scalar.addi c0_i32_126 v231
  v232.toNat
def k0_off1 (d0 : Dev nD) : Fin 2 → Nat :=
  let c1_i32_127 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v234 : BitVec 32 := Scalar.subi c1_i32_127 v67
  let c512_i32_128 : BitVec 32 := 512#32
  let v235 : BitVec 32 := Scalar.muli v234 c512_i32_128
  let v236 : Index := Scalar.indexCast v235
  let c0 : Index := 0#32
  ![v236.toNat, 0]
def k0_off2 (d0 : Dev nD) : Fin 2 → Nat :=
  let c1_i32_127 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v234 : BitVec 32 := Scalar.subi c1_i32_127 v67
  let c512_i32_128 : BitVec 32 := 512#32
  let v235 : BitVec 32 := Scalar.muli v234 c512_i32_128
  let v251 : Index := Scalar.indexCast v235
  let c0_133 : Index := 0#32
  ![v251.toNat, 0]
def k0_off3 (d0 : Dev nD) : Fin 2 → Nat :=
  let c1_i32_127 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v234 : BitVec 32 := Scalar.subi c1_i32_127 v67
  let c512_i32_128 : BitVec 32 := 512#32
  let v235 : BitVec 32 := Scalar.muli v234 c512_i32_128
  let v311 : Index := Scalar.indexCast v235
  let c0_160 : Index := 0#32
  ![v311.toNat, 0]
def k0_off4 (d0 : Dev nD) : Fin 2 → Nat :=
  let c1_i32_127 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v234 : BitVec 32 := Scalar.subi c1_i32_127 v67
  let c512_i32_128 : BitVec 32 := 512#32
  let v235 : BitVec 32 := Scalar.muli v234 c512_i32_128
  let c0_i32_167 : BitVec 32 := 0#32
  ![v235.toNat, 0]
def k0_dev6 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v69 : BitVec 32 := Scalar.muli v19 c8_i32_30
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v70 : BitVec 32 := Scalar.muli v46 c2_i32_31
  let v71 : BitVec 32 := Scalar.addi v69 v70
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v68 : BitVec 32 := Scalar.subi c1_i32_29 v67
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_163 : BitVec 32 := 1#32
  let v315 : BitVec 32 := Scalar.muli v83 c1_i32_163
  let v316 : BitVec 32 := Scalar.addi c0_i32_164 v315
  v316.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let v323 : Index := Scalar.indexCast v233
  let c0_168 : Index := 0#32
  ![v323.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let v338 : Index := Scalar.indexCast v233
  let c0_174 : Index := 0#32
  ![v338.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let v398 : Index := Scalar.indexCast v233
  let c0_206 : Index := 0#32
  ![v398.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c1_i32_231 : BitVec 32 := 1#32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let v428 : BitVec 32 := Scalar.subi c1_i32_231 v109
  let c256_i32_232 : BitVec 32 := 256#32
  let v429 : BitVec 32 := Scalar.muli v428 c256_i32_232
  let v430 : BitVec 32 := Scalar.addi v233 v429
  let c0_i32_239 : BitVec 32 := 0#32
  ![v430.toNat, 0]
def k0_dev7 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v85 : BitVec 32 := Scalar.muli v19 c8_i32_39
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_38 : BitVec 32 := 1#32
  let v84 : BitVec 32 := Scalar.xori v46 c1_i32_38
  let c2_i32_40 : BitVec 32 := 2#32
  let v86 : BitVec 32 := Scalar.muli v84 c2_i32_40
  let v87 : BitVec 32 := Scalar.addi v85 v86
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi v84 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : BitVec 32 := Scalar.xori v67 v97
  let v99 : BitVec 32 := Scalar.addi v87 v98
  let c1_i32_235 : BitVec 32 := 1#32
  let v431 : BitVec 32 := Scalar.muli v99 c1_i32_235
  let v432 : BitVec 32 := Scalar.addi c0_i32_236 v431
  v432.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let v449 : Index := Scalar.indexCast v427
  let c0_253 : Index := 0#32
  ![v449.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c1_i32_256 : BitVec 32 := 1#32
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let v459 : BitVec 32 := Scalar.subi c1_i32_256 v152
  let c128_i32_257 : BitVec 32 := 128#32
  let v460 : BitVec 32 := Scalar.muli v459 c128_i32_257
  let v461 : BitVec 32 := Scalar.addi v427 v460
  let c0_i32_263 : BitVec 32 := 0#32
  ![v461.toNat, 0]
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v111 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_53 : BitVec 32 := 2#32
  let v110 : BitVec 32 := Scalar.xori v46 c2_i32_53
  let c2_i32_55 : BitVec 32 := 2#32
  let v112 : BitVec 32 := Scalar.muli v110 c2_i32_55
  let v113 : BitVec 32 := Scalar.addi v111 v112
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_56 : BitVec 32 := 2#32
  let c0_i32_57 : BitVec 32 := 0#32
  let v114 : BitVec 1 := Scalar.cmpi .eq c2_i32_56 c0_i32_57
  let c1_i32_58 : BitVec 32 := 1#32
  let v115 : BitVec 32 := Scalar.select v114 c1_i32_58 c2_i32_56
  let v116 : BitVec 32 := Scalar.remsi v110 v115
  let c0_i32_60 : BitVec 32 := 0#32
  let v118 : BitVec 1 := Scalar.cmpi .slt v116 c0_i32_60
  let c0_i32_61 : BitVec 32 := 0#32
  let v119 : BitVec 1 := Scalar.cmpi .slt v115 c0_i32_61
  let v120 : BitVec 1 := Scalar.xori v118 v119
  let c0_i32_59 : BitVec 32 := 0#32
  let v117 : BitVec 1 := Scalar.cmpi .ne v116 c0_i32_59
  let v121 : BitVec 1 := Scalar.andi v120 v117
  let v122 : BitVec 32 := Scalar.addi v116 v115
  let v123 : BitVec 32 := Scalar.select v121 v122 v116
  let v124 : BitVec 32 := Scalar.xori v67 v123
  let v125 : BitVec 32 := Scalar.addi v113 v124
  let c1_i32_260 : BitVec 32 := 1#32
  let v462 : BitVec 32 := Scalar.muli v125 c1_i32_260
  let v463 : BitVec 32 := Scalar.addi c0_i32_261 v462
  v463.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let v480 : Index := Scalar.indexCast v458
  let c0_277 : Index := 0#32
  ![v480.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c1_i32_280 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v490 : BitVec 32 := Scalar.subi c1_i32_280 v178
  let c64_i32_281 : BitVec 32 := 64#32
  let v491 : BitVec 32 := Scalar.muli v490 c64_i32_281
  let v492 : BitVec 32 := Scalar.addi v458 v491
  let c0_i32_287 : BitVec 32 := 0#32
  ![v492.toNat, 0]
def k0_dev9 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_75 : BitVec 32 := 1#32
  let v153 : BitVec 32 := Scalar.xori v19 c1_i32_75
  let c8_i32_76 : BitVec 32 := 8#32
  let v154 : BitVec 32 := Scalar.muli v153 c8_i32_76
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_77 : BitVec 32 := 2#32
  let v155 : BitVec 32 := Scalar.muli v46 c2_i32_77
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v46 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_284 : BitVec 32 := 1#32
  let v493 : BitVec 32 := Scalar.muli v168 c1_i32_284
  let v494 : BitVec 32 := Scalar.addi c0_i32_285 v493
  v494.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let v511 : Index := Scalar.indexCast v489
  let c0_301 : Index := 0#32
  ![v511.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c1_i32_305 : BitVec 32 := 1#32
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let v521 : BitVec 32 := Scalar.subi c1_i32_305 v221
  let c32_i32_306 : BitVec 32 := 32#32
  let v522 : BitVec 32 := Scalar.muli v521 c32_i32_306
  let v523 : BitVec 32 := Scalar.addi v489 v522
  let c0_i32_312 : BitVec 32 := 0#32
  ![v523.toNat, 0]
def k0_dev10 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_90 : BitVec 32 := 2#32
  let v179 : BitVec 32 := Scalar.xori v19 c2_i32_90
  let c8_i32_91 : BitVec 32 := 8#32
  let v180 : BitVec 32 := Scalar.muli v179 c8_i32_91
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_92 : BitVec 32 := 2#32
  let v181 : BitVec 32 := Scalar.muli v46 c2_i32_92
  let v182 : BitVec 32 := Scalar.addi v180 v181
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_93 : BitVec 32 := 2#32
  let c0_i32_94 : BitVec 32 := 0#32
  let v183 : BitVec 1 := Scalar.cmpi .eq c2_i32_93 c0_i32_94
  let c1_i32_95 : BitVec 32 := 1#32
  let v184 : BitVec 32 := Scalar.select v183 c1_i32_95 c2_i32_93
  let v185 : BitVec 32 := Scalar.remsi v46 v184
  let c0_i32_97 : BitVec 32 := 0#32
  let v187 : BitVec 1 := Scalar.cmpi .slt v185 c0_i32_97
  let c0_i32_98 : BitVec 32 := 0#32
  let v188 : BitVec 1 := Scalar.cmpi .slt v184 c0_i32_98
  let v189 : BitVec 1 := Scalar.xori v187 v188
  let c0_i32_96 : BitVec 32 := 0#32
  let v186 : BitVec 1 := Scalar.cmpi .ne v185 c0_i32_96
  let v190 : BitVec 1 := Scalar.andi v189 v186
  let v191 : BitVec 32 := Scalar.addi v185 v184
  let v192 : BitVec 32 := Scalar.select v190 v191 v185
  let v193 : BitVec 32 := Scalar.xori v67 v192
  let v194 : BitVec 32 := Scalar.addi v182 v193
  let c1_i32_309 : BitVec 32 := 1#32
  let v524 : BitVec 32 := Scalar.muli v194 c1_i32_309
  let v525 : BitVec 32 := Scalar.addi c0_i32_310 v524
  v525.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let v542 : Index := Scalar.indexCast v520
  let c0_326 : Index := 0#32
  ![v542.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c0_i32_333 : BitVec 32 := 0#32
  ![v520.toNat, 0]
def k0_dev11 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_90 : BitVec 32 := 2#32
  let v179 : BitVec 32 := Scalar.xori v19 c2_i32_90
  let c8_i32_91 : BitVec 32 := 8#32
  let v180 : BitVec 32 := Scalar.muli v179 c8_i32_91
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_92 : BitVec 32 := 2#32
  let v181 : BitVec 32 := Scalar.muli v46 c2_i32_92
  let v182 : BitVec 32 := Scalar.addi v180 v181
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_93 : BitVec 32 := 2#32
  let c0_i32_94 : BitVec 32 := 0#32
  let v183 : BitVec 1 := Scalar.cmpi .eq c2_i32_93 c0_i32_94
  let c1_i32_95 : BitVec 32 := 1#32
  let v184 : BitVec 32 := Scalar.select v183 c1_i32_95 c2_i32_93
  let v185 : BitVec 32 := Scalar.remsi v46 v184
  let c0_i32_97 : BitVec 32 := 0#32
  let v187 : BitVec 1 := Scalar.cmpi .slt v185 c0_i32_97
  let c0_i32_98 : BitVec 32 := 0#32
  let v188 : BitVec 1 := Scalar.cmpi .slt v184 c0_i32_98
  let v189 : BitVec 1 := Scalar.xori v187 v188
  let c0_i32_96 : BitVec 32 := 0#32
  let v186 : BitVec 1 := Scalar.cmpi .ne v185 c0_i32_96
  let v190 : BitVec 1 := Scalar.andi v189 v186
  let v191 : BitVec 32 := Scalar.addi v185 v184
  let v192 : BitVec 32 := Scalar.select v190 v191 v185
  let v193 : BitVec 32 := Scalar.xori v67 v192
  let v194 : BitVec 32 := Scalar.addi v182 v193
  let c1_i32_331 : BitVec 32 := 1#32
  let v550 : BitVec 32 := Scalar.muli v194 c1_i32_331
  let v551 : BitVec 32 := Scalar.addi c0_i32_332 v550
  v551.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c32_i32_346 : BitVec 32 := 32#32
  let v568 : BitVec 32 := Scalar.muli v221 c32_i32_346
  let v569 : BitVec 32 := Scalar.subi v520 v568
  let c0_i32_350 : BitVec 32 := 0#32
  ![v569.toNat, 0]
def k0_dev12 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_75 : BitVec 32 := 1#32
  let v153 : BitVec 32 := Scalar.xori v19 c1_i32_75
  let c8_i32_76 : BitVec 32 := 8#32
  let v154 : BitVec 32 := Scalar.muli v153 c8_i32_76
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_77 : BitVec 32 := 2#32
  let v155 : BitVec 32 := Scalar.muli v46 c2_i32_77
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v46 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_348 : BitVec 32 := 1#32
  let v570 : BitVec 32 := Scalar.muli v168 c1_i32_348
  let v571 : BitVec 32 := Scalar.addi c0_i32_349 v570
  v571.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c32_i32_346 : BitVec 32 := 32#32
  let v568 : BitVec 32 := Scalar.muli v221 c32_i32_346
  let v569 : BitVec 32 := Scalar.subi v520 v568
  let c64_i32_363 : BitVec 32 := 64#32
  let v588 : BitVec 32 := Scalar.muli v178 c64_i32_363
  let v589 : BitVec 32 := Scalar.subi v569 v588
  let c0_i32_367 : BitVec 32 := 0#32
  ![v589.toNat, 0]
def k0_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v111 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_53 : BitVec 32 := 2#32
  let v110 : BitVec 32 := Scalar.xori v46 c2_i32_53
  let c2_i32_55 : BitVec 32 := 2#32
  let v112 : BitVec 32 := Scalar.muli v110 c2_i32_55
  let v113 : BitVec 32 := Scalar.addi v111 v112
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_56 : BitVec 32 := 2#32
  let c0_i32_57 : BitVec 32 := 0#32
  let v114 : BitVec 1 := Scalar.cmpi .eq c2_i32_56 c0_i32_57
  let c1_i32_58 : BitVec 32 := 1#32
  let v115 : BitVec 32 := Scalar.select v114 c1_i32_58 c2_i32_56
  let v116 : BitVec 32 := Scalar.remsi v110 v115
  let c0_i32_60 : BitVec 32 := 0#32
  let v118 : BitVec 1 := Scalar.cmpi .slt v116 c0_i32_60
  let c0_i32_61 : BitVec 32 := 0#32
  let v119 : BitVec 1 := Scalar.cmpi .slt v115 c0_i32_61
  let v120 : BitVec 1 := Scalar.xori v118 v119
  let c0_i32_59 : BitVec 32 := 0#32
  let v117 : BitVec 1 := Scalar.cmpi .ne v116 c0_i32_59
  let v121 : BitVec 1 := Scalar.andi v120 v117
  let v122 : BitVec 32 := Scalar.addi v116 v115
  let v123 : BitVec 32 := Scalar.select v121 v122 v116
  let v124 : BitVec 32 := Scalar.xori v67 v123
  let v125 : BitVec 32 := Scalar.addi v113 v124
  let c1_i32_365 : BitVec 32 := 1#32
  let v590 : BitVec 32 := Scalar.muli v125 c1_i32_365
  let v591 : BitVec 32 := Scalar.addi c0_i32_366 v590
  v591.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c32_i32_346 : BitVec 32 := 32#32
  let v568 : BitVec 32 := Scalar.muli v221 c32_i32_346
  let v569 : BitVec 32 := Scalar.subi v520 v568
  let c64_i32_363 : BitVec 32 := 64#32
  let v588 : BitVec 32 := Scalar.muli v178 c64_i32_363
  let v589 : BitVec 32 := Scalar.subi v569 v588
  let c128_i32_380 : BitVec 32 := 128#32
  let v608 : BitVec 32 := Scalar.muli v152 c128_i32_380
  let v609 : BitVec 32 := Scalar.subi v589 v608
  let c0_i32_385 : BitVec 32 := 0#32
  ![v609.toNat, 0]
def k0_dev14 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v85 : BitVec 32 := Scalar.muli v19 c8_i32_39
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_38 : BitVec 32 := 1#32
  let v84 : BitVec 32 := Scalar.xori v46 c1_i32_38
  let c2_i32_40 : BitVec 32 := 2#32
  let v86 : BitVec 32 := Scalar.muli v84 c2_i32_40
  let v87 : BitVec 32 := Scalar.addi v85 v86
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi v84 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : BitVec 32 := Scalar.xori v67 v97
  let v99 : BitVec 32 := Scalar.addi v87 v98
  let c1_i32_383 : BitVec 32 := 1#32
  let v610 : BitVec 32 := Scalar.muli v99 c1_i32_383
  let v611 : BitVec 32 := Scalar.addi c0_i32_384 v610
  v611.toNat
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c32_i32_346 : BitVec 32 := 32#32
  let v568 : BitVec 32 := Scalar.muli v221 c32_i32_346
  let v569 : BitVec 32 := Scalar.subi v520 v568
  let c64_i32_363 : BitVec 32 := 64#32
  let v588 : BitVec 32 := Scalar.muli v178 c64_i32_363
  let v589 : BitVec 32 := Scalar.subi v569 v588
  let c128_i32_380 : BitVec 32 := 128#32
  let v608 : BitVec 32 := Scalar.muli v152 c128_i32_380
  let v609 : BitVec 32 := Scalar.subi v589 v608
  let c256_i32_398 : BitVec 32 := 256#32
  let v628 : BitVec 32 := Scalar.muli v109 c256_i32_398
  let v629 : BitVec 32 := Scalar.subi v609 v628
  let c0_i32_402 : BitVec 32 := 0#32
  ![v629.toNat, 0]
def k0_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v69 : BitVec 32 := Scalar.muli v19 c8_i32_30
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v70 : BitVec 32 := Scalar.muli v46 c2_i32_31
  let v71 : BitVec 32 := Scalar.addi v69 v70
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v68 : BitVec 32 := Scalar.subi c1_i32_29 v67
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_400 : BitVec 32 := 1#32
  let v630 : BitVec 32 := Scalar.muli v83 c1_i32_400
  let v631 : BitVec 32 := Scalar.addi c0_i32_401 v630
  v631.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c512_i32 : BitVec 32 := 512#32
  let v233 : BitVec 32 := Scalar.muli v67 c512_i32
  let c2_i32_47 : BitVec 32 := 2#32
  let c0_i32_48 : BitVec 32 := 0#32
  let v100 : BitVec 1 := Scalar.cmpi .eq c2_i32_47 c0_i32_48
  let c1_i32_49 : BitVec 32 := 1#32
  let v101 : BitVec 32 := Scalar.select v100 c1_i32_49 c2_i32_47
  let v102 : BitVec 32 := Scalar.remsi v46 v101
  let c0_i32_51 : BitVec 32 := 0#32
  let v104 : BitVec 1 := Scalar.cmpi .slt v102 c0_i32_51
  let c0_i32_52 : BitVec 32 := 0#32
  let v105 : BitVec 1 := Scalar.cmpi .slt v101 c0_i32_52
  let v106 : BitVec 1 := Scalar.xori v104 v105
  let c0_i32_50 : BitVec 32 := 0#32
  let v103 : BitVec 1 := Scalar.cmpi .ne v102 c0_i32_50
  let v107 : BitVec 1 := Scalar.andi v106 v103
  let v108 : BitVec 32 := Scalar.addi v102 v101
  let v109 : BitVec 32 := Scalar.select v107 v108 v102
  let c256_i32 : BitVec 32 := 256#32
  let v426 : BitVec 32 := Scalar.muli v109 c256_i32
  let v427 : BitVec 32 := Scalar.addi v233 v426
  let c0_i32_63 : BitVec 32 := 0#32
  let v127 : BitVec 1 := Scalar.cmpi .sgt v46 c0_i32_63
  let v128 : BitVec 32 := Scalar.extui v127
  let c0_i32_64 : BitVec 32 := 0#32
  let v129 : BitVec 1 := Scalar.cmpi .slt v46 c0_i32_64
  let v130 : BitVec 32 := Scalar.extui v129
  let v131 : BitVec 32 := Scalar.subi v128 v130
  let c2_i32_62 : BitVec 32 := 2#32
  let c0_i32_65 : BitVec 32 := 0#32
  let v132 : BitVec 1 := Scalar.cmpi .sgt c2_i32_62 c0_i32_65
  let v133 : BitVec 32 := Scalar.extui v132
  let c0_i32_66 : BitVec 32 := 0#32
  let v134 : BitVec 1 := Scalar.cmpi .slt c2_i32_62 c0_i32_66
  let v135 : BitVec 32 := Scalar.extui v134
  let v136 : BitVec 32 := Scalar.subi v133 v135
  let v137 : BitVec 1 := Scalar.cmpi .ne v131 v136
  let v138 : BitVec 32 := Scalar.remsi v46 c2_i32_62
  let c0_i32_67 : BitVec 32 := 0#32
  let v139 : BitVec 1 := Scalar.cmpi .ne v138 c0_i32_67
  let v140 : BitVec 1 := Scalar.andi v137 v139
  let v126 : BitVec 32 := Scalar.divsi v46 c2_i32_62
  let c1_i32_68 : BitVec 32 := 1#32
  let v141 : BitVec 32 := Scalar.subi v126 c1_i32_68
  let v142 : BitVec 32 := Scalar.select v140 v141 v126
  let c2_i32_69 : BitVec 32 := 2#32
  let c0_i32_70 : BitVec 32 := 0#32
  let v143 : BitVec 1 := Scalar.cmpi .eq c2_i32_69 c0_i32_70
  let c1_i32_71 : BitVec 32 := 1#32
  let v144 : BitVec 32 := Scalar.select v143 c1_i32_71 c2_i32_69
  let v145 : BitVec 32 := Scalar.remsi v142 v144
  let c0_i32_73 : BitVec 32 := 0#32
  let v147 : BitVec 1 := Scalar.cmpi .slt v145 c0_i32_73
  let c0_i32_74 : BitVec 32 := 0#32
  let v148 : BitVec 1 := Scalar.cmpi .slt v144 c0_i32_74
  let v149 : BitVec 1 := Scalar.xori v147 v148
  let c0_i32_72 : BitVec 32 := 0#32
  let v146 : BitVec 1 := Scalar.cmpi .ne v145 c0_i32_72
  let v150 : BitVec 1 := Scalar.andi v149 v146
  let v151 : BitVec 32 := Scalar.addi v145 v144
  let v152 : BitVec 32 := Scalar.select v150 v151 v145
  let c128_i32 : BitVec 32 := 128#32
  let v457 : BitVec 32 := Scalar.muli v152 c128_i32
  let v458 : BitVec 32 := Scalar.addi v427 v457
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi v19 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let c64_i32 : BitVec 32 := 64#32
  let v488 : BitVec 32 := Scalar.muli v178 c64_i32
  let v489 : BitVec 32 := Scalar.addi v458 v488
  let c0_i32_100 : BitVec 32 := 0#32
  let v196 : BitVec 1 := Scalar.cmpi .sgt v19 c0_i32_100
  let v197 : BitVec 32 := Scalar.extui v196
  let c0_i32_101 : BitVec 32 := 0#32
  let v198 : BitVec 1 := Scalar.cmpi .slt v19 c0_i32_101
  let v199 : BitVec 32 := Scalar.extui v198
  let v200 : BitVec 32 := Scalar.subi v197 v199
  let c2_i32_99 : BitVec 32 := 2#32
  let c0_i32_102 : BitVec 32 := 0#32
  let v201 : BitVec 1 := Scalar.cmpi .sgt c2_i32_99 c0_i32_102
  let v202 : BitVec 32 := Scalar.extui v201
  let c0_i32_103 : BitVec 32 := 0#32
  let v203 : BitVec 1 := Scalar.cmpi .slt c2_i32_99 c0_i32_103
  let v204 : BitVec 32 := Scalar.extui v203
  let v205 : BitVec 32 := Scalar.subi v202 v204
  let v206 : BitVec 1 := Scalar.cmpi .ne v200 v205
  let v207 : BitVec 32 := Scalar.remsi v19 c2_i32_99
  let c0_i32_104 : BitVec 32 := 0#32
  let v208 : BitVec 1 := Scalar.cmpi .ne v207 c0_i32_104
  let v209 : BitVec 1 := Scalar.andi v206 v208
  let v195 : BitVec 32 := Scalar.divsi v19 c2_i32_99
  let c1_i32_105 : BitVec 32 := 1#32
  let v210 : BitVec 32 := Scalar.subi v195 c1_i32_105
  let v211 : BitVec 32 := Scalar.select v209 v210 v195
  let c2_i32_106 : BitVec 32 := 2#32
  let c0_i32_107 : BitVec 32 := 0#32
  let v212 : BitVec 1 := Scalar.cmpi .eq c2_i32_106 c0_i32_107
  let c1_i32_108 : BitVec 32 := 1#32
  let v213 : BitVec 32 := Scalar.select v212 c1_i32_108 c2_i32_106
  let v214 : BitVec 32 := Scalar.remsi v211 v213
  let c0_i32_110 : BitVec 32 := 0#32
  let v216 : BitVec 1 := Scalar.cmpi .slt v214 c0_i32_110
  let c0_i32_111 : BitVec 32 := 0#32
  let v217 : BitVec 1 := Scalar.cmpi .slt v213 c0_i32_111
  let v218 : BitVec 1 := Scalar.xori v216 v217
  let c0_i32_109 : BitVec 32 := 0#32
  let v215 : BitVec 1 := Scalar.cmpi .ne v214 c0_i32_109
  let v219 : BitVec 1 := Scalar.andi v218 v215
  let v220 : BitVec 32 := Scalar.addi v214 v213
  let v221 : BitVec 32 := Scalar.select v219 v220 v214
  let c32_i32_304 : BitVec 32 := 32#32
  let v519 : BitVec 32 := Scalar.muli v221 c32_i32_304
  let v520 : BitVec 32 := Scalar.addi v489 v519
  let c32_i32_346 : BitVec 32 := 32#32
  let v568 : BitVec 32 := Scalar.muli v221 c32_i32_346
  let v569 : BitVec 32 := Scalar.subi v520 v568
  let c64_i32_363 : BitVec 32 := 64#32
  let v588 : BitVec 32 := Scalar.muli v178 c64_i32_363
  let v589 : BitVec 32 := Scalar.subi v569 v588
  let c128_i32_380 : BitVec 32 := 128#32
  let v608 : BitVec 32 := Scalar.muli v152 c128_i32_380
  let v609 : BitVec 32 := Scalar.subi v589 v608
  let c256_i32_398 : BitVec 32 := 256#32
  let v628 : BitVec 32 := Scalar.muli v109 c256_i32_398
  let v629 : BitVec 32 := Scalar.subi v609 v628
  let v638 : Index := Scalar.indexCast v629
  let c0_404 : Index := 0#32
  ![v638.toNat, 0]
def k0_dev16 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_30 : BitVec 32 := 8#32
  let v69 : BitVec 32 := Scalar.muli v19 c8_i32_30
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let v70 : BitVec 32 := Scalar.muli v46 c2_i32_31
  let v71 : BitVec 32 := Scalar.addi v69 v70
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v68 : BitVec 32 := Scalar.subi c1_i32_29 v67
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_424 : BitVec 32 := 1#32
  let v668 : BitVec 32 := Scalar.muli v83 c1_i32_424
  let v669 : BitVec 32 := Scalar.addi c0_i32_425 v668
  v669.toNat
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v85 : BitVec 32 := Scalar.muli v19 c8_i32_39
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_38 : BitVec 32 := 1#32
  let v84 : BitVec 32 := Scalar.xori v46 c1_i32_38
  let c2_i32_40 : BitVec 32 := 2#32
  let v86 : BitVec 32 := Scalar.muli v84 c2_i32_40
  let v87 : BitVec 32 := Scalar.addi v85 v86
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_41 : BitVec 32 := 2#32
  let c0_i32_42 : BitVec 32 := 0#32
  let v88 : BitVec 1 := Scalar.cmpi .eq c2_i32_41 c0_i32_42
  let c1_i32_43 : BitVec 32 := 1#32
  let v89 : BitVec 32 := Scalar.select v88 c1_i32_43 c2_i32_41
  let v90 : BitVec 32 := Scalar.remsi v84 v89
  let c0_i32_45 : BitVec 32 := 0#32
  let v92 : BitVec 1 := Scalar.cmpi .slt v90 c0_i32_45
  let c0_i32_46 : BitVec 32 := 0#32
  let v93 : BitVec 1 := Scalar.cmpi .slt v89 c0_i32_46
  let v94 : BitVec 1 := Scalar.xori v92 v93
  let c0_i32_44 : BitVec 32 := 0#32
  let v91 : BitVec 1 := Scalar.cmpi .ne v90 c0_i32_44
  let v95 : BitVec 1 := Scalar.andi v94 v91
  let v96 : BitVec 32 := Scalar.addi v90 v89
  let v97 : BitVec 32 := Scalar.select v95 v96 v90
  let v98 : BitVec 32 := Scalar.xori v67 v97
  let v99 : BitVec 32 := Scalar.addi v87 v98
  let c1_i32_427 : BitVec 32 := 1#32
  let v670 : BitVec 32 := Scalar.muli v99 c1_i32_427
  let v671 : BitVec 32 := Scalar.addi c0_i32_428 v670
  v671.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v111 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_53 : BitVec 32 := 2#32
  let v110 : BitVec 32 := Scalar.xori v46 c2_i32_53
  let c2_i32_55 : BitVec 32 := 2#32
  let v112 : BitVec 32 := Scalar.muli v110 c2_i32_55
  let v113 : BitVec 32 := Scalar.addi v111 v112
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_56 : BitVec 32 := 2#32
  let c0_i32_57 : BitVec 32 := 0#32
  let v114 : BitVec 1 := Scalar.cmpi .eq c2_i32_56 c0_i32_57
  let c1_i32_58 : BitVec 32 := 1#32
  let v115 : BitVec 32 := Scalar.select v114 c1_i32_58 c2_i32_56
  let v116 : BitVec 32 := Scalar.remsi v110 v115
  let c0_i32_60 : BitVec 32 := 0#32
  let v118 : BitVec 1 := Scalar.cmpi .slt v116 c0_i32_60
  let c0_i32_61 : BitVec 32 := 0#32
  let v119 : BitVec 1 := Scalar.cmpi .slt v115 c0_i32_61
  let v120 : BitVec 1 := Scalar.xori v118 v119
  let c0_i32_59 : BitVec 32 := 0#32
  let v117 : BitVec 1 := Scalar.cmpi .ne v116 c0_i32_59
  let v121 : BitVec 1 := Scalar.andi v120 v117
  let v122 : BitVec 32 := Scalar.addi v116 v115
  let v123 : BitVec 32 := Scalar.select v121 v122 v116
  let v124 : BitVec 32 := Scalar.xori v67 v123
  let v125 : BitVec 32 := Scalar.addi v113 v124
  let c1_i32_430 : BitVec 32 := 1#32
  let v672 : BitVec 32 := Scalar.muli v125 c1_i32_430
  let v673 : BitVec 32 := Scalar.addi c0_i32_431 v672
  v673.toNat
def k0_dev19 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_75 : BitVec 32 := 1#32
  let v153 : BitVec 32 := Scalar.xori v19 c1_i32_75
  let c8_i32_76 : BitVec 32 := 8#32
  let v154 : BitVec 32 := Scalar.muli v153 c8_i32_76
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_77 : BitVec 32 := 2#32
  let v155 : BitVec 32 := Scalar.muli v46 c2_i32_77
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v46 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_433 : BitVec 32 := 1#32
  let v674 : BitVec 32 := Scalar.muli v168 c1_i32_433
  let v675 : BitVec 32 := Scalar.addi c0_i32_434 v674
  v675.toNat
def k0_dev20 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_90 : BitVec 32 := 2#32
  let v179 : BitVec 32 := Scalar.xori v19 c2_i32_90
  let c8_i32_91 : BitVec 32 := 8#32
  let v180 : BitVec 32 := Scalar.muli v179 c8_i32_91
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_92 : BitVec 32 := 2#32
  let v181 : BitVec 32 := Scalar.muli v46 c2_i32_92
  let v182 : BitVec 32 := Scalar.addi v180 v181
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_93 : BitVec 32 := 2#32
  let c0_i32_94 : BitVec 32 := 0#32
  let v183 : BitVec 1 := Scalar.cmpi .eq c2_i32_93 c0_i32_94
  let c1_i32_95 : BitVec 32 := 1#32
  let v184 : BitVec 32 := Scalar.select v183 c1_i32_95 c2_i32_93
  let v185 : BitVec 32 := Scalar.remsi v46 v184
  let c0_i32_97 : BitVec 32 := 0#32
  let v187 : BitVec 1 := Scalar.cmpi .slt v185 c0_i32_97
  let c0_i32_98 : BitVec 32 := 0#32
  let v188 : BitVec 1 := Scalar.cmpi .slt v184 c0_i32_98
  let v189 : BitVec 1 := Scalar.xori v187 v188
  let c0_i32_96 : BitVec 32 := 0#32
  let v186 : BitVec 1 := Scalar.cmpi .ne v185 c0_i32_96
  let v190 : BitVec 1 := Scalar.andi v189 v186
  let v191 : BitVec 32 := Scalar.addi v185 v184
  let v192 : BitVec 32 := Scalar.select v190 v191 v185
  let v193 : BitVec 32 := Scalar.xori v67 v192
  let v194 : BitVec 32 := Scalar.addi v182 v193
  let c1_i32_436 : BitVec 32 := 1#32
  let v676 : BitVec 32 := Scalar.muli v194 c1_i32_436
  let v677 : BitVec 32 := Scalar.addi c0_i32_437 v676
  v677.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S256x512 : Shape := ⟨2, ![256, 512]⟩
abbrev S1024x128 : Shape := ⟨2, ![1024, 128]⟩
abbrev S_ : Shape := ⟨0, ![]⟩
abbrev S1024 : Shape := ⟨1, ![1024]⟩
abbrev S1024x512 : Shape := ⟨2, ![1024, 512]⟩
abbrev S1024x1x1 : Shape := ⟨3, ![1024, 1, 1]⟩
abbrev S1 : Shape := ⟨1, ![1]⟩
abbrev S1x1x1 : Shape := ⟨3, ![1, 1, 1]⟩
abbrev S1x1 : Shape := ⟨2, ![1, 1]⟩
abbrev S1024x256x512 : Shape := ⟨3, ![1024, 256, 512]⟩

abbrev nBuf : Space → Nat
  | .hbm => 91
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S128x256x512, .bf16⟩
  | .hbm, ⟨4, _⟩ => ⟨S256x512, .bf16⟩
  | .hbm, ⟨5, _⟩ => ⟨S1024x256, .f32⟩
  | .hbm, ⟨6, _⟩ => ⟨S256x128, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S256x512, .f32⟩
  | .hbm, ⟨20, _⟩ => ⟨S1024x512, .f32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S_, .i32⟩
  | .hbm, ⟨40, _⟩ => ⟨S1024x1, .i32⟩
  | .hbm, ⟨41, _⟩ => ⟨S1024x1, .i32⟩
  | .hbm, ⟨42, _⟩ => ⟨S1024x1, .i32⟩
  | .hbm, ⟨43, _⟩ => ⟨S1024x1x1, .i32⟩
  | .hbm, ⟨44, _⟩ => ⟨S1, .i32⟩
  | .hbm, ⟨45, _⟩ => ⟨S_, .i32⟩
  | .hbm, ⟨46, _⟩ => ⟨S1024x1x1, .i32⟩
  | .hbm, ⟨47, _⟩ => ⟨S1024x1x1, .i1⟩
  | .hbm, ⟨48, _⟩ => ⟨S1x1x1, .i32⟩
  | .hbm, ⟨49, _⟩ => ⟨S1024x1x1, .i32⟩
  | .hbm, ⟨50, _⟩ => ⟨S1024x1x1, .i1⟩
  | .hbm, ⟨51, _⟩ => ⟨S1024x1x1, .i1⟩
  | .hbm, ⟨52, _⟩ => ⟨S_, .i1⟩
  | .hbm, ⟨53, _⟩ => ⟨S1024x1, .i1⟩
  | .hbm, ⟨54, _⟩ => ⟨S1024x1, .f32⟩
  | .hbm, ⟨55, _⟩ => ⟨S_, .f32⟩
  | .hbm, ⟨56, _⟩ => ⟨S1024x1, .f32⟩
  | .hbm, ⟨57, _⟩ => ⟨S1024x1, .f32⟩
  | .hbm, ⟨58, _⟩ => ⟨S_, .f32⟩
  | .hbm, ⟨59, _⟩ => ⟨S_, .f32⟩
  | .hbm, ⟨60, _⟩ => ⟨S1024x1, .f32⟩
  | .hbm, ⟨61, _⟩ => ⟨S1024x1, .f32⟩
  | .hbm, ⟨62, _⟩ => ⟨S128x256x512, .f32⟩
  | .hbm, ⟨63, _⟩ => ⟨S1024, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S1, .i32⟩
  | .hbm, ⟨73, _⟩ => ⟨S_, .i32⟩
  | .hbm, ⟨74, _⟩ => ⟨S1024x1, .i32⟩
  | .hbm, ⟨75, _⟩ => ⟨S1024x1, .i1⟩
  | .hbm, ⟨76, _⟩ => ⟨S1x1, .i32⟩
  | .hbm, ⟨77, _⟩ => ⟨S1024x1, .i32⟩
  | .hbm, ⟨78, _⟩ => ⟨S1024x1, .i1⟩
  | .hbm, ⟨79, _⟩ => ⟨S1024x1, .i1⟩
  | .hbm, ⟨80, _⟩ => ⟨S_, .i1⟩
  | .hbm, ⟨81, _⟩ => ⟨S1024, .i1⟩
  | .hbm, ⟨82, _⟩ => ⟨S1024x256x512, .f32⟩
  | .hbm, ⟨83, _⟩ => ⟨S1024x256x512, .i1⟩
  | .hbm, ⟨84, _⟩ => ⟨S_, .f32⟩
  | .hbm, ⟨85, _⟩ => ⟨S1024x256x512, .f32⟩
  | .hbm, ⟨86, _⟩ => ⟨S1024x256x512, .f32⟩
  | .hbm, ⟨87, _⟩ => ⟨S1024x512, .f32⟩
  | .hbm, ⟨88, _⟩ => ⟨S1024x512, .f32⟩
  | .hbm, ⟨89, _⟩ => ⟨S1024x512, .f32⟩
  | .hbm, ⟨90, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v20 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩

abbrev nD : Nat := 1
abbrev τ : Topo := Topo.v7x

variable {F : FTy → Type} [FloatOps F]
-- ==== Proof.Geometry.lean ====
/-
  The hypercube geometry of the exchange: which device meets which at each level, and which rows of the
  accumulator a device keeps and gives away. Level `k < 5` halves the rows a device is responsible for;
  `lo k c` is the first row of what device `c` still holds before level `k`, and `sz k` the number of rows
  it keeps at level `k` (and gives away: the two halves are equal).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.MoeProof

open Cert.KernelIdeal Cert.KernelIdeal.Gen
open Idealize.ShloMosaic Idealize.ShloMosaic.TcCoe

/-! ## Partners, bits and row ranges -/

/-- The bits of the device number that change between a device and its partner at level `k`. -/
def mask (k : ℕ) : ℕ := if k = 0 then 1 else if k = 1 then 3 else 2 ^ k

/-- The device that `c` exchanges with at level `k`. -/
def prt (k : ℕ) (c : Dev nD) : Dev nD := ⟨(c.val ^^^ mask k) % 32, Nat.mod_lt _ (by decide)⟩

/-- Which half of its rows device `c` keeps at level `k`: `0` the lower, `1` the upper. -/
def bit (k : ℕ) (c : Dev nD) : ℕ := if k = 0 then (c.val + c.val / 2) % 2 else (c.val / 2 ^ k) % 2

/-- How many rows device `c` keeps at level `k`, and how many it gives away. -/
def sz (k : ℕ) : ℕ := 512 / 2 ^ k

/-- The first row device `c` holds before level `k`. -/
def lo : ℕ → Dev nD → ℕ
  | 0, _ => 0
  | k + 1, c => lo k c + bit k c * sz k

/-- The first row of level `k`'s region of the receive buffer. -/
def st (k : ℕ) : ℕ := if k = 0 then 0 else if k = 1 then 512 else if k = 2 then 768 else if k = 3 then 896 else 960

/-- The partner of a device's partner is the device. -/
theorem prt_prt : ∀ k < 5, ∀ c : Dev nD, prt k (prt k c) = c := by decide +kernel
/-- The partner at a level, as a permutation of the devices. -/
def prtE (k : Fin 5) : Dev nD ≃ Dev nD := ⟨prt k, prt k, prt_prt k k.isLt, prt_prt k k.isLt⟩

/-- Partners at a level hold the same rows before it. -/
theorem lo_prt : ∀ k < 5, ∀ c : Dev nD, lo k (prt k c) = lo k c := by decide +kernel
/-- At each level one of the two partners keeps the lower half and the other the upper half. -/
theorem lo_succ : ∀ k < 5, ∀ c : Dev nD,
    (lo (k + 1) c = lo k c ∧ lo (k + 1) (prt k c) = lo k c + sz k) ∨ (lo (k + 1) c = lo k c + sz k ∧ lo (k + 1) (prt k c) = lo k c) := by decide +kernel
/-- The rows a device keeps lie in the array; -/
theorem lo_le : ∀ k < 5, ∀ c : Dev nD, lo (k + 1) c + sz k ≤ 1024 := by decide +kernel
/-- so do the rows it gives away. -/
theorem lo_le' : ∀ k < 5, ∀ c : Dev nD, lo (k + 1) (prt k c) + sz k ≤ 1024 := by decide +kernel
/-- Each level halves the number of rows, -/
theorem sz_succ : ∀ k < 4, sz k = sz (k + 1) + sz (k + 1) := by decide +kernel
/-- and leaves some. -/
theorem sz_pos : ∀ k < 5, 0 < sz k := by decide +kernel
/-- Each level's region lies in the receive buffer. -/
theorem st_le : ∀ k < 5, st k + sz k ≤ 992 := by decide +kernel

/-! ## The kernel's device numbers and offsets -/

/-- The barrier's device is the partner at level 0. -/
theorem dev1_eq : ∀ c : Dev nD, (⟨k0_dev1 c, k0_dev1_lt c⟩ : Dev nD) = prt 0 c := by decide +kernel
/-- The barrier's device is the partner at level 1. -/
theorem dev2_eq : ∀ c : Dev nD, (⟨k0_dev2 c, k0_dev2_lt c⟩ : Dev nD) = prt 1 c := by decide +kernel
/-- The barrier's device is the partner at level 2. -/
theorem dev3_eq : ∀ c : Dev nD, (⟨k0_dev3 c, k0_dev3_lt c⟩ : Dev nD) = prt 2 c := by decide +kernel
/-- The barrier's device is the partner at level 3. -/
theorem dev4_eq : ∀ c : Dev nD, (⟨k0_dev4 c, k0_dev4_lt c⟩ : Dev nD) = prt 3 c := by decide +kernel
/-- The barrier's device is the partner at level 4. -/
theorem dev5_eq : ∀ c : Dev nD, (⟨k0_dev5 c, k0_dev5_lt c⟩ : Dev nD) = prt 4 c := by decide +kernel
/-- The halving's device is the partner at level 0. -/
theorem dev6_eq : ∀ c : Dev nD, (⟨k0_dev6 c, k0_dev6_lt c⟩ : Dev nD) = prt 0 c := by decide +kernel
/-- The halving's device is the partner at level 1. -/
theorem dev7_eq : ∀ c : Dev nD, (⟨k0_dev7 c, k0_dev7_lt c⟩ : Dev nD) = prt 1 c := by decide +kernel
/-- The halving's device is the partner at level 2. -/
theorem dev8_eq : ∀ c : Dev nD, (⟨k0_dev8 c, k0_dev8_lt c⟩ : Dev nD) = prt 2 c := by decide +kernel
/-- The halving's device is the partner at level 3. -/
theorem dev9_eq : ∀ c : Dev nD, (⟨k0_dev9 c, k0_dev9_lt c⟩ : Dev nD) = prt 3 c := by decide +kernel
/-- The halving's device is the partner at level 4. -/
theorem dev10_eq : ∀ c : Dev nD, (⟨k0_dev10 c, k0_dev10_lt c⟩ : Dev nD) = prt 4 c := by decide +kernel
/-- The doubling's device is the partner at level 4. -/
theorem dev11_eq : ∀ c : Dev nD, (⟨k0_dev11 c, k0_dev11_lt c⟩ : Dev nD) = prt 4 c := by decide +kernel
/-- The doubling's device is the partner at level 3. -/
theorem dev12_eq : ∀ c : Dev nD, (⟨k0_dev12 c, k0_dev12_lt c⟩ : Dev nD) = prt 3 c := by decide +kernel
/-- The doubling's device is the partner at level 2. -/
theorem dev13_eq : ∀ c : Dev nD, (⟨k0_dev13 c, k0_dev13_lt c⟩ : Dev nD) = prt 2 c := by decide +kernel
/-- The doubling's device is the partner at level 1. -/
theorem dev14_eq : ∀ c : Dev nD, (⟨k0_dev14 c, k0_dev14_lt c⟩ : Dev nD) = prt 1 c := by decide +kernel
/-- The doubling's device is the partner at level 0. -/
theorem dev15_eq : ∀ c : Dev nD, (⟨k0_dev15 c, k0_dev15_lt c⟩ : Dev nD) = prt 0 c := by decide +kernel
/-- The exit barrier's device is the partner at level 0. -/
theorem dev16_eq : ∀ c : Dev nD, (⟨k0_dev16 c, k0_dev16_lt c⟩ : Dev nD) = prt 0 c := by decide +kernel
/-- The exit barrier's device is the partner at level 1. -/
theorem dev17_eq : ∀ c : Dev nD, (⟨k0_dev17 c, k0_dev17_lt c⟩ : Dev nD) = prt 1 c := by decide +kernel
/-- The exit barrier's device is the partner at level 2. -/
theorem dev18_eq : ∀ c : Dev nD, (⟨k0_dev18 c, k0_dev18_lt c⟩ : Dev nD) = prt 2 c := by decide +kernel
/-- The exit barrier's device is the partner at level 3. -/
theorem dev19_eq : ∀ c : Dev nD, (⟨k0_dev19 c, k0_dev19_lt c⟩ : Dev nD) = prt 3 c := by decide +kernel
/-- The exit barrier's device is the partner at level 4. -/
theorem dev20_eq : ∀ c : Dev nD, (⟨k0_dev20 c, k0_dev20_lt c⟩ : Dev nD) = prt 4 c := by decide +kernel

/-- This offset is the first row the partner keeps at level 0. -/
theorem off1_eq : ∀ c : Dev nD, k0_off1 c = ![lo 1 (prt 0 c), 0] := by decide +kernel
/-- This offset is the first row the partner keeps at level 0. -/
theorem off2_eq : ∀ c : Dev nD, k0_off2 c = ![lo 1 (prt 0 c), 0] := by decide +kernel
/-- This offset is the first row the partner keeps at level 0. -/
theorem off3_eq : ∀ c : Dev nD, k0_off3 c = ![lo 1 (prt 0 c), 0] := by decide +kernel
/-- This offset is the first row the partner keeps at level 0. -/
theorem off4_eq : ∀ c : Dev nD, k0_off4 c = ![lo 1 (prt 0 c), 0] := by decide +kernel
/-- This offset is the first row the device keeps at level 0. -/
theorem off5_eq : ∀ c : Dev nD, k0_off5 c = ![lo 1 c, 0] := by decide +kernel
/-- This offset is the first row the device keeps at level 0. -/
theorem off6_eq : ∀ c : Dev nD, k0_off6 c = ![lo 1 c, 0] := by decide +kernel
/-- This offset is the first row the device keeps at level 0. -/
theorem off7_eq : ∀ c : Dev nD, k0_off7 c = ![lo 1 c, 0] := by decide +kernel
/-- This offset is the first row the partner keeps at level 1. -/
theorem off8_eq : ∀ c : Dev nD, k0_off8 c = ![lo 2 (prt 1 c), 0] := by decide +kernel
/-- This offset is the first row the device keeps at level 1. -/
theorem off9_eq : ∀ c : Dev nD, k0_off9 c = ![lo 2 c, 0] := by decide +kernel
/-- This offset is the first row the partner keeps at level 2. -/
theorem off10_eq : ∀ c : Dev nD, k0_off10 c = ![lo 3 (prt 2 c), 0] := by decide +kernel
/-- This offset is the first row the device keeps at level 2. -/
theorem off11_eq : ∀ c : Dev nD, k0_off11 c = ![lo 3 c, 0] := by decide +kernel
/-- This offset is the first row the partner keeps at level 3. -/
theorem off12_eq : ∀ c : Dev nD, k0_off12 c = ![lo 4 (prt 3 c), 0] := by decide +kernel
/-- This offset is the first row the device keeps at level 3. -/
theorem off13_eq : ∀ c : Dev nD, k0_off13 c = ![lo 4 c, 0] := by decide +kernel
/-- This offset is the first row the partner keeps at level 4. -/
theorem off14_eq : ∀ c : Dev nD, k0_off14 c = ![lo 5 (prt 4 c), 0] := by decide +kernel
/-- This offset is the first row the device keeps at level 4. -/
theorem off15_eq : ∀ c : Dev nD, k0_off15 c = ![lo 5 c, 0] := by decide +kernel
/-- This offset is the first row the device keeps at level 4. -/
theorem off16_eq : ∀ c : Dev nD, k0_off16 c = ![lo 5 c, 0] := by decide +kernel
/-- This offset is the first row the device keeps at level 3. -/
theorem off17_eq : ∀ c : Dev nD, k0_off17 c = ![lo 4 c, 0] := by decide +kernel
/-- This offset is the first row the device keeps at level 2. -/
theorem off18_eq : ∀ c : Dev nD, k0_off18 c = ![lo 3 c, 0] := by decide +kernel
/-- This offset is the first row the device keeps at level 1. -/
theorem off19_eq : ∀ c : Dev nD, k0_off19 c = ![lo 2 c, 0] := by decide +kernel
/-- This offset is the first row the device keeps at level 0. -/
theorem off20_eq : ∀ c : Dev nD, k0_off20 c = ![lo 1 c, 0] := by decide +kernel
/-- This offset is the first row the device keeps at level 0. -/
theorem off21_eq : ∀ c : Dev nD, k0_off21 c = ![lo 1 c, 0] := by decide +kernel

/-! ## Rows of a matrix -/

/-- The entries of an `R` by 512 matrix in the `n` rows from row `a`. -/
def rws (R a n : ℕ) : Finset (⟨2, ![R, 512]⟩ : Shape).Idx := Finset.univ.filter fun i => a ≤ (i 0).val ∧ (i 0).val < a + n

/-- An entry is in those rows when its first coordinate is. -/
theorem mem_rws {R a n : ℕ} {i : (⟨2, ![R, 512]⟩ : Shape).Idx} : Iff (i ∈ rws R a n) (a ≤ (i 0).val ∧ (i 0).val < a + n) := by
  unfold rws; rw [Finset.mem_filter]; exact ⟨fun h => h.2, fun h => ⟨Finset.mem_univ _, h⟩⟩

/-- Rows apart share no entry. -/
theorem rws_disjoint {R a n a' n' : ℕ} (h : a + n ≤ a' ∨ a' + n' ≤ a) : Disjoint (rws R a n) (rws R a' n') := by
  rw [Finset.disjoint_left]; intro i hi hi'
  rw [mem_rws] at hi hi'; omega

/-- What a device holds before level `k` is what it keeps and what it gives away. -/
theorem rws_split (k : ℕ) (hk : k < 5) (c : Dev nD) :
    rws 1024 (lo k c) (sz k + sz k) = rws 1024 (lo (k + 1) c) (sz k) ∪ rws 1024 (lo (k + 1) (prt k c)) (sz k) := by
  ext i; rw [Finset.mem_union, mem_rws, mem_rws, mem_rws]
  rcases lo_succ k hk c with ⟨h1, h2⟩ | ⟨h1, h2⟩ <;> rw [h1, h2] <;> constructor <;> intro h <;> omega

/-- What it keeps and what it gives away are apart. -/
theorem rws_split_disjoint (k : ℕ) (hk : k < 5) (c : Dev nD) :
    Disjoint (rws 1024 (lo (k + 1) c) (sz k)) (rws 1024 (lo (k + 1) (prt k c)) (sz k)) := by
  apply rws_disjoint
  rcases lo_succ k hk c with ⟨h1, h2⟩ | ⟨h1, h2⟩ <;> rw [h1, h2] <;> omega

/-- Before the first level a device holds every row. -/
theorem rws_all (c : Dev nD) : rws 1024 (lo 0 c) (sz 0 + sz 0) = Finset.univ := by
  ext i; rw [mem_rws]
  have h : (i 0).val < 1024 := (i 0).isLt
  have h0 : lo 0 c = 0 := rfl
  have h1 : sz 0 = 512 := rfl
  rw [h0, h1]
  exact ⟨fun _ => Finset.mem_univ _, fun _ => by omega⟩

/-- A rectangle of whole rows is the rows it names. -/
theorem unit_set {R n : ℕ} {o : Fin 2 → ℕ} {inb : ∀ a, o a + (⟨2, ![n, 512]⟩ : Shape).size a ≤ (⟨2, ![R, 512]⟩ : Shape).size a} {a : ℕ} (ho : o = ![a, 0]) :
    (Rect.unit (s := (⟨2, ![R, 512]⟩ : Shape)) o (⟨2, ![n, 512]⟩ : Shape).size inb).set = rws R a n := by
  subst ho
  ext i; rw [Rect.mem_set_unit, mem_rws]
  constructor
  · intro h; exact h 0
  · intro h x
    have h1 : (i 1).val < 512 := (i 1).isLt
    match x with
    | ⟨0, _⟩ => exact h
    | ⟨1, _⟩ => exact ⟨Nat.zero_le _, by show (i 1).val < 0 + 512; omega⟩

end Cert.MoeProof

end
-- ==== Proof.Contents.lean ====
/-
  What the buffers hold. `P c` is device `c`'s own partial result, `A k c` its accumulator after `k` levels of the
  reduction (its own rows), `landed k c` what its partner's rows leave in the receive buffer at level `k`, `FIN` the
  reduced rows, which the second half of the exchange spreads to every device, and `OUT c` the result.
-/
module

public import proofs.«01_k».proof.Proof.Geometry
public import Idealize.ShloMosaic.Lib.ValueIdxCore
public import Idealize.ShloMosaic.Lib.Pipeline.Value

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

/-- The staged tokens, -/
abbrev xM : Memref sig .tc .vmem S1024x256 .bf16 := Memref.whole cc0_stg0_0
/-- the router, -/
abbrev wrM : Memref sig .tc .vmem S256x128 .bf16 := Memref.whole cc0_stg1_0
/-- the indices, -/
abbrev ixM : Memref sig .tc .vmem S1024x1 .i32 := Memref.whole cc0_stg2_0
/-- the device's experts, -/
abbrev exM : Memref sig .tc .vmem S4x256x512 .bf16 := Memref.whole cc0_stg3_0
/-- the shared expert, -/
abbrev shM : Memref sig .tc .vmem S256x512 .bf16 := Memref.whole cc0_stg4_0
/-- the result, -/
abbrev outM : Memref sig .tc .vmem S1024x512 .f32 := Memref.whole cc0_stg5_0
/-- the accumulator, -/
abbrev accM : Memref sig .tc .vmem S1024x512 .bf16 := Memref.whole cc0_scratch0
/-- and the receive buffer. -/
abbrev comM : Memref sig .tc .vmem S992x512 .bf16 := Memref.whole cc0_scratch1

/-! ## The arguments as staged -/

/-- The tokens' values, -/
def xV (c : Dev nD) : Vec F S1024x256 .bf16 := iblk m c 0 t0_0
/-- the router's, -/
def wrV (c : Dev nD) : Vec F S256x128 .bf16 := iblk m c 1 t0_0
/-- the indices', -/
def ixV (c : Dev nD) : Vec F S1024x1 .i32 := iblk m c 2 t0_0
/-- the experts', -/
def exV (c : Dev nD) : Vec F S4x256x512 .bf16 := iblk m c 3 t0_0
/-- and the shared expert's. -/
def shV (c : Dev nD) : Vec F S256x512 .bf16 := iblk m c 4 t0_0

/-! ## The partial result of one device -/

/-- The device's number as the kernel computes it. -/
def devW (c : Dev nD) : BitVec 32 := Scalar.remsi (Scalar.divsi (Dev.word c) 1#32) 32#32

/-- The first expert's number as the kernel computes it, plus `j`. -/
def expW (c : Dev nD) (j : BitVec 32) : BitVec 32 := Scalar.addi (Scalar.muli (devW c) 4#32) j

/-- The router as the body loads it. -/
def ldR (c : Dev nD) : Vec F S256x128 .bf16 :=
  wrM.view.readAt (Elt F) (Rect.unit (s := S256x128) ![0, 0] S256x128.size inb_S256x128_S256x128_0_0).toLoadRect (wrV m c)
/-- One of the device's experts as the body loads it. -/
def ldE (c : Dev nD) (j : Fin 4) (h : ∀ a, (![j.val, 0, 0] : Fin 3 → ℕ) a + S1x256x512.size a ≤ S4x256x512.size a) : Vec F S1x256x512 .bf16 :=
  exM.view.readAt (Elt F) (Rect.unit (s := S4x256x512) ![j.val, 0, 0] S1x256x512.size h).toLoadRect (exV m c)
/-- The first expert's weights on this device, and the other three. -/
abbrev ldE0 (c : Dev nD) : Vec F S1x256x512 .bf16 := ldE m c 0 inb_S4x256x512_S1x256x512_0_0_0
/-- The second expert's weights, -/
abbrev ldE1 (c : Dev nD) : Vec F S1x256x512 .bf16 := ldE m c 1 inb_S4x256x512_S1x256x512_1_0_0
/-- the third's, -/
abbrev ldE2 (c : Dev nD) : Vec F S1x256x512 .bf16 := ldE m c 2 inb_S4x256x512_S1x256x512_2_0_0
/-- and the fourth's. -/
abbrev ldE3 (c : Dev nD) : Vec F S1x256x512 .bf16 := ldE m c 3 inb_S4x256x512_S1x256x512_3_0_0

/-- The tokens and the indices of the half this device gives away, and of the half it keeps. -/
def ldX1 (c : Dev nD) : Vec F S512x256 .bf16 :=
  xM.view.readAt (Elt F) (Rect.unit (s := S1024x256) (k0_off1 c) S512x256.size (k0_off1_inb c)).toLoadRect (xV m c)
/-- The indices of the half it gives away. -/
def ldI1 (c : Dev nD) : Vec F S512x1 .i32 :=
  ixM.view.readAt (Elt F) (Rect.unit (s := S1024x1) (k0_off2 c) S512x1.size (k0_off2_inb c)).toLoadRect (ixV m c)
/-- The tokens of the half it keeps. -/
def ldX2 (c : Dev nD) : Vec F S512x256 .bf16 :=
  xM.view.readAt (Elt F) (Rect.unit (s := S1024x256) (k0_off5 c) S512x256.size (k0_off5_inb c)).toLoadRect (xV m c)
/-- The indices of the half it keeps. -/
def ldI2 (c : Dev nD) : Vec F S512x1 .i32 :=
  ixM.view.readAt (Elt F) (Rect.unit (s := S1024x1) (k0_off6 c) S512x1.size (k0_off6_inb c)).toLoadRect (ixV m c)

/-- The half of the partial result this device gives away. -/
def peerHalf (c : Dev nD) : Vec F S512x512 .bf16 :=
  k0_pay6 (k0_pay1 (ldX1 m c)) (k0_pay2 (F := F) (ldI1 m c)) (k0_pay3 (ldX1 m c) (ldR m c) (ldI1 m c))
    (k0_pay5 (devW c) (k0_pay1 (ldX1 m c)) (k0_pay2 (F := F) (ldI1 m c)) (k0_pay3 (ldX1 m c) (ldR m c) (ldI1 m c)) k0_pay4 (expW c 0#32)
      (ldE0 m c) (ldE1 m c) (ldE2 m c))
    (expW c 3#32) (ldE3 m c)

/-- The half of the partial result this device keeps. -/
def myHalf (c : Dev nD) : Vec F S512x512 .bf16 :=
  k0_pay13 (devW c) (k0_pay7 (ldX2 m c)) (k0_pay9 (F := F) (ldI2 m c)) (k0_pay10 (k0_pay8 (ldX2 m c) (ldR m c)) (k0_pay9 (F := F) (ldI2 m c)))
    (k0_pay11 (devW c) (k0_pay7 (ldX2 m c)) (k0_pay8 (ldX2 m c) (ldR m c)) (k0_pay9 (F := F) (ldI2 m c)) (ldE0 m c) (ldE1 m c))
    (expW c 2#32) (k0_pay12 (k0_pay7 (ldX2 m c)) (ldE2 m c)) (ldE3 m c)

/-- The partial result of device `c`: both halves in place. -/
def P (c : Dev nD) : Vec F S1024x512 .bf16 := fun i =>
  if (i 0).val / 512 = bit 0 c then myHalf m c (ix2 ⟨(i 0).val % 512, Nat.mod_lt _ (by decide)⟩ (i 1))
  else peerHalf m c (ix2 ⟨(i 0).val % 512, Nat.mod_lt _ (by decide)⟩ (i 1))

/-- The accumulator after `k` levels. -/
def A : ℕ → Dev nD → Vec F S1024x512 .bf16
  | 0, c => P m c
  | k + 1, c => addf (A k c) (A k (prt k c))

/-- What lands in the receive buffer at level `k`. -/
def landed (k : ℕ) (c : Dev nD) : Vec F S992x512 .bf16 := fun i =>
  A m k (prt k c) (ix2 ⟨((i 0).val - st k + lo (k + 1) c) % 1024, Nat.mod_lt _ (by decide)⟩ (i 1))

/-- The device that ends the reduction with the `b`-th block of 32 rows. -/
def own (b : ℕ) : Dev nD := ⟨(((b / 16 + b / 8) % 2) + 2 * (b / 8 % 2) + 4 * (b / 4 % 2) + 8 * (b / 2 % 2) + 16 * (b % 2)) % 32, Nat.mod_lt _ (by decide)⟩

/-- The reduced rows. -/
def FIN : Vec F S1024x512 .bf16 := fun i => A m 5 (own ((i 0).val / 32)) i

/-- The result on device `c`. -/
def OUT (c : Dev nD) : Vec F S1024x512 .f32 := addf (k0_pay14 (xV m c) (shV m c)) (extf .f32 (FIN m) bitsLt_bf16_f32)

/-- A device owns the block of 32 rows that the reduction leaves it with. -/
theorem own_lo : ∀ c : Dev nD, own (lo 5 c / 32) = c ∧ lo 5 c % 32 = 0 := by decide +kernel

/-- On its own last rows, the reduced rows are what the device has. -/
theorem FIN_own (c : Dev nD) (i : S1024x512.Idx) (h : i ∈ rws 1024 (lo 5 c) 32) : FIN m i = A m 5 c i := by
  rw [mem_rws] at h
  obtain ⟨h1, h2⟩ := own_lo c
  unfold FIN
  rw [show (i 0).val / 32 = lo 5 c / 32 by omega, h1]

/-! ## Rows of a whole buffer -/

section Rows
variable {R n a : ℕ} {o : Fin 2 → ℕ} {inb : ∀ d, o d + (⟨2, ![n, 512]⟩ : Shape).size d ≤ (⟨2, ![R, 512]⟩ : Shape).size d}

/-- Where the rectangle of `n` rows from row `a` puts an index. -/
theorem emb_rows (ho : o = ![a, 0]) (x : (⟨2, ![n, 512]⟩ : Shape).Idx) :
    ((Rect.unit (s := (⟨2, ![R, 512]⟩ : Shape)) o (⟨2, ![n, 512]⟩ : Shape).size inb).emb x 0).val = a + (x 0).val
      ∧ (Rect.unit (s := (⟨2, ![R, 512]⟩ : Shape)) o (⟨2, ![n, 512]⟩ : Shape).size inb).emb x 1 = x 1 := by
  subst ho
  constructor
  · show a + 1 * (x 0).val = a + (x 0).val
    omega
  · refine Fin.ext ?_
    show 0 + 1 * (x 1).val = (x 1).val
    omega

/-- The same as an index of the whole array. -/
theorem emb_rows_eq (ho : o = ![a, 0]) (x : (⟨2, ![n, 512]⟩ : Shape).Idx) (h : a + (x 0).val < R) :
    (Rect.unit (s := (⟨2, ![R, 512]⟩ : Shape)) o (⟨2, ![n, 512]⟩ : Shape).size inb).emb x = ix2 ⟨a + (x 0).val, h⟩ (x 1) := by
  obtain ⟨h0, h1⟩ := emb_rows (inb := inb) ho x
  rw [eq_ix2 ((Rect.unit (s := (⟨2, ![R, 512]⟩ : Shape)) o (⟨2, ![n, 512]⟩ : Shape).size inb).emb x)]
  refine congr (congrArg _ (Fin.ext h0)) h1

end Rows

end Cert.MoeProof

end
-- ==== Proof.Rows.lean ====
/-
  Buffers of rows: owning a run of rows of a device's buffer, splitting it, and the rules for loading, storing and
  sending one run.
-/
module

public import proofs.«01_k».proof.Proof.Contents

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duties `Fin 5`) -/

/-- The exchange's resources, -/
abbrev UB : Type := URounds (GSem nD τ sig) (Fin 5)
/-- beside the staging's. -/
abbrev UU : Type := UR sig nD τ × UB

local notation "𝕄" => MT nD τ sig Unit (Elt F) ℕ UU ℕ

/-- The staging's resources among all of them, -/
abbrev EP : Emb (UR sig nD τ) (MT nD τ sig Unit (Elt F) ℕ UU ℕ) := embL
/-- and the exchange's. -/
abbrev ER : Emb UB (MT nD τ sig Unit (Elt F) ℕ UU ℕ) := embR

/-- No loop has a variant. -/
abbrev 𝒱₀ : Variants := Variants.none

/-- Running a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Generic

variable {R : ℕ} {e : EltTy} (M : Memref sig .tc .vmem (⟨2, ![R, 512]⟩ : Shape) e) (c : Dev nD)

/-- Rows `[a, a + n)` of device `c`'s buffer behind `M`, holding what `f` holds there. -/
def rowPts (a n : ℕ) (q : PosShare TreeShare) (f : Buf (Elt F) (M.view.loc (c : Thread nD τ))) : sProp 𝕄 :=
  (M.view.loc (c : Thread nD τ)) ↦[M.view.setOn (rws R a n)]{q} f

instance rowPts_storable (a n : ℕ) (q : PosShare TreeShare) (f : Buf (Elt F) (M.view.loc (c : Thread nD τ))) :
    BI.Storable (upEmb : UEmb _ 𝕄) (rowPts (F := F) M c a n q f) := by unfold rowPts; infer_instance

/-- The rectangle of `n` whole rows. -/
abbrev rowRect (R n : ℕ) (o : Fin 2 → ℕ) (inb : ∀ d, o d + (⟨2, ![n, 512]⟩ : Shape).size d ≤ (⟨2, ![R, 512]⟩ : Shape).size d) :
    Rect (⟨2, ![R, 512]⟩ : Shape) := Rect.unit (s := (⟨2, ![R, 512]⟩ : Shape)) o (⟨2, ![n, 512]⟩ : Shape).size inb

/-- The same rows joined from two disjoint runs. -/
theorem rowPts_union {a n b k l j : ℕ} (h : rws R a n = rws R b k ∪ rws R l j) (hd : Disjoint (rws R b k) (rws R l j))
    (q : PosShare TreeShare) (f : Buf (Elt F) (M.view.loc (c : Thread nD τ))) :
    (rowPts M c a n q f : sProp 𝕄) ⊣⊢ iprop(rowPts M c b k q f ∗ rowPts M c l j q f) := by
  unfold rowPts
  rw [h, show M.view.setOn (rws R b k ∪ rws R l j) = M.view.setOn (rws R b k) ∪ M.view.setOn (rws R l j) from Finset.map_union _ _]
  exact pointsTo_union ((Finset.disjoint_map _).mpr hd)

/-- A run held at two half shares. -/
theorem rowPts_share (a n : ℕ) (f : Buf (Elt F) (M.view.loc (c : Thread nD τ))) :
    (rowPts M c a n fullShare f : sProp 𝕄) ⊣⊢ iprop(rowPts M c a n fullShare.left f ∗ rowPts M c a n fullShare.right f) := by
  unfold rowPts
  exact pointsTo_share (PosShare.mem_left_op_right _)

/-- A run depends on its rows' contents only. -/
theorem rowPts_congr {a n : ℕ} {q : PosShare TreeShare} {f g : Buf (Elt F) (M.view.loc (c : Thread nD τ))}
    (h : ∀ x ∈ rws R a n, M.view.read (Elt F) f x = M.view.read (Elt F) g x) :
    (rowPts M c a n q f : sProp 𝕄) = rowPts M c a n q g := by
  unfold rowPts
  refine pointsTo_congr fun i hi => ?_
  obtain ⟨x, hx, rfl⟩ := Finset.mem_map.mp hi
  exact (cast_bijective (congrArg (Elt F) M.view.elt_eq)).injective (h x hx)

variable {n s a : ℕ} {o : Fin 2 → ℕ} {inb : ∀ d, o d + (⟨2, ![n, 512]⟩ : Shape).size d ≤ (⟨2, ![R, 512]⟩ : Shape).size d}

/-- The entries of a slice by whole rows are the rows' entries. -/
theorem setOn_rows (hn : n = s) (ho : o = ![a, 0]) : (M.view.slice (rowRect R n o inb)).set = M.view.setOn (rws R a s) := by
  subst hn
  rw [View.set_slice, unit_set ho]; rfl

/-- Writing a run: any contents that hold the written values there. -/
theorem write_rows (hn : n = s) (ho : o = ![a, 0]) {q : PosShare TreeShare} {f g : Buf (Elt F) (M.view.loc (c : Thread nD τ))}
    {w : (⟨2, ![n, 512]⟩ : Shape).Idx → Elt F e} (hw : ∀ x, M.view.read (Elt F) g ((rowRect R n o inb).emb x) = w x) :
    ((M.view.loc (c : Thread nD τ)) ↦[M.view.setOn (rws R a s)]{q} ((M.view.slice (rowRect R n o inb)).write (Elt F) f w Finset.univ) : sProp 𝕄)
      = rowPts M c a s q g := by
  unfold rowPts
  refine pointsTo_congr fun i hi => ?_
  rw [← setOn_rows (inb := inb) M hn ho] at hi
  obtain ⟨x, hx, rfl⟩ := Finset.mem_map.mp hi
  rw [View.write_emb_of_mem _ _ (Finset.mem_univ x), ← hw x, View.read_apply]
  exact cast_cast ..

/-- A run of rows, as a slice of the buffer owns it; -/
theorem rowPts_slice (hn : n = s) (ho : o = ![a, 0]) {h1 : ∀ a, (rowRect R n o inb).stride a = 1} (q : PosShare TreeShare) (f : Buf (Elt F) (M.view.loc (c : Thread nD τ))) :
    (rowPts M c a s q f : sProp 𝕄)
      = ((M.slice (rowRect R n o inb) h1).view.loc (c : Thread nD τ)) ↦[(M.slice (rowRect R n o inb) h1).view.set]{q} f := by
  unfold rowPts
  rw [← setOn_rows (inb := inb) M hn ho]

/-- and once the slice is written. -/
theorem write_slice (hn : n = s) (ho : o = ![a, 0]) {h1 : ∀ a, (rowRect R n o inb).stride a = 1} (q : PosShare TreeShare)
    (f g : Buf (Elt F) (M.view.loc (c : Thread nD τ)))
    {w : (⟨2, ![n, 512]⟩ : Shape).Idx → Elt F e} (hw : ∀ x, M.view.read (Elt F) g ((rowRect R n o inb).emb x) = w x) :
    (((M.slice (rowRect R n o inb) h1).view.loc (c : Thread nD τ)) ↦[(M.slice (rowRect R n o inb) h1).view.set]{q}
        ((M.slice (rowRect R n o inb) h1).view.write (Elt F) f w Finset.univ) : sProp 𝕄)
      = rowPts M c a s q g := by
  rw [← write_rows (inb := inb) M c hn ho hw (f := f), ← setOn_rows (inb := inb) M hn ho]

/-- Loading a run. -/
theorem wp_rowLd (hn : n = s) (ho : o = ![a, 0]) {α : Type} {Q : α → sProp 𝕄} {q : PosShare TreeShare}
    {f : Buf (Elt F) (M.view.loc (c : Thread nD τ))} {hl : M.view.LoadsAt (rowRect R n o inb).toLoadRect}
    {k : ((rowRect R n o inb).shape.Idx → Elt F e) → Prog (TpuEff nD τ sig (Elt F) Λ₀ .tc) α} :
    (rowPts M c a s q f : sProp 𝕄)
      ⊢ iprop((rowPts M c a s q f -∗ WP c (k fun x => M.view.read (Elt F) f ((rowRect R n o inb).emb x)) Q)
        -∗ WP c (.op (.load M (rowRect R n o inb).toLoadRect hl) k) Q) := by
  unfold rowPts
  exact wp_load_rect 𝒱₀ (c : Thread nD τ) none Set.univ (m := M) (r := rowRect R n o inb) (by
    rw [show (M.access (rowRect R n o inb)).set = (M.view.slice (rowRect R n o inb)).set from rfl, setOn_rows M hn ho])

/-- Storing a run. -/
theorem wp_rowSt (hn : n = s) (ho : o = ![a, 0]) {α : Type} {Q : α → sProp 𝕄}
    {f : Buf (Elt F) (M.view.loc (c : Thread nD τ))} (g : Buf (Elt F) (M.view.loc (c : Thread nD τ)))
    {w : (rowRect R n o inb).shape.Idx → Elt F e} (hw : ∀ x, M.view.read (Elt F) g ((rowRect R n o inb).emb x) = w x)
    {hx : (M.access (rowRect R n o inb)).Stores Finset.univ} {hm : (Finset.univ : Finset (rowRect R n o inb).shape.Idx) = Finset.univ ∨ ∀ a, (rowRect R n o inb).stride a = 1}
    {k : PUnit → Prog (TpuEff nD τ sig (Elt F) Λ₀ .tc) α} :
    (rowPts M c a s fullShare f : sProp 𝕄)
      ⊢ iprop((rowPts M c a s fullShare g -∗ WP c (k ⟨⟩) Q)
        -∗ WP c (.op (.store M (rowRect R n o inb) w Finset.univ hx hm) k) Q) := by
  rw [← write_rows (q := fullShare) M c hn ho hw (f := f)]
  exact wp_store 𝒱₀ (c : Thread nD τ) none Set.univ (m := M) (r := rowRect R n o inb) (Mk := Finset.univ) (by
    rw [View.setOn_univ, show (M.access (rowRect R n o inb)).set = (M.view.slice (rowRect R n o inb)).set from rfl, setOn_rows M hn ho])

end Generic

/-! ## The kernel's buffers of rows -/

/-- The accumulator's rows held, -/
abbrev accPts (c : Dev nD) (a n : ℕ) (q : PosShare TreeShare) (f : Vec F S1024x512 .bf16) : sProp 𝕄 := rowPts accM c a n q f
/-- the receive buffer's, -/
abbrev comPts (c : Dev nD) (a n : ℕ) (f : Vec F S992x512 .bf16) : sProp 𝕄 := rowPts comM c a n fullShare f
/-- and the result's. -/
abbrev outPts (c : Dev nD) (a n : ℕ) (f : Vec F S1024x512 .f32) : sProp 𝕄 := rowPts outM c a n fullShare f

end Cert.MoeProof

end
-- ==== Proof.Protocol.lean ====
/-
  The protocol. Every device has 22 cells: the entry barrier, the exit semaphore, ten send and ten receive
  semaphores. Step `t < 5` of the transfers is level `t` of the reduction, step `t ≥ 5` level `9 - t` of the spreading
  back. Each cell has one round:
  * barrier of `c`: duty `k` is a unit from `c`'s level-`k` partner, which hands over its level-`k` region of the
    receive buffer;
  * receive `t < 5`: the partner's rows landed in the receive buffer, and the partner's rows of its accumulator,
    which it needs no more until they come back reduced;
  * receive `t ≥ 5`: the partner's reduced rows, landed in the accumulator;
  * send `t < 5`: nothing (the rows went with the landing); send `t ≥ 5`: the share of the rows that was read;
  * exit: five units, nothing handed over.
-/
module

public import proofs.«01_k».proof.Proof.Rows

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- The semaphores: the entry barrier's, the exit's, step `t`'s send and receive. -/
abbrev barS : Sem sig := (SemArray.scalar (sig.barrier 0 rfl) : Sems sig S_).sem
/-- The exit barrier's counter, -/
abbrev exS : Sem sig := (cc0_scratch4 : Sems sig S_).sem
/-- the counter that step `t` sends by, -/
def sndS (t : ℕ) : DmaSem sig := ⟨(6 + t) % 26, Nat.mod_lt _ (by decide)⟩
/-- and the counter that it receives by. -/
def rcvS (t : ℕ) : DmaSem sig := ⟨(16 + t) % 26, Nat.mod_lt _ (by decide)⟩

/-- The level of step `t`. -/
def lvl (t : ℕ) : ℕ := if t < 5 then t else 9 - t

/-- The credit of a transfer of `n` rows. -/
def crN (n : ℕ) : ℕ := RefSig.tileCredit (⟨2, ![n, 512]⟩ : Shape) .bf16
/-- Every copy moves something. -/
theorem crN_pos : ∀ k < 5, 0 < crN (sz k) := by decide +kernel

/-- A device's cells, numbered. -/
def csem (j : Fin 22) : SemLoc sig :=
  if j.val = 0 then .reg barS else if j.val = 1 then .reg exS else if j.val < 12 then .dma (sndS (j.val - 2)) else .dma (rcvS (j.val - 12))
/-- A device's counter of the 22. -/
abbrev kcell (cj : Dev nD × Fin 22) : GSem nD τ sig := ((cj.1 : Thread nD τ), csem cj.2)

/-- The 22 counters differ. -/
theorem csem_injective : Function.Injective csem := by decide +kernel

/-- The step whose transfer DMA semaphore `q` counts, and whether it is the receiving end. -/
def stepOf (q : DmaSem sig) : ℕ := if q.val < 16 then q.val - 6 else q.val - 16

/-! ## The schedule -/

/-- What `c`'s level-`k` partner hands over at the barrier: its level-`k` receive region. -/
def barPay (c : Dev nD) (k : ℕ) : sProp 𝕄 := iprop(∃ f, comPts (prt k c) (st k) (sz k) f)
/-- What lands at level `k` of the reduction, and the rows it came from. -/
def rsPay (c : Dev nD) (k : ℕ) : sProp 𝕄 :=
  iprop(comPts c (st k) (sz k) (landed m k c) ∗ ∃ f, accPts (prt k c) (lo (k + 1) c) (sz k) fullShare f)
/-- What lands at level `k` of the spreading back. -/
def agPay (c : Dev nD) (k : ℕ) : sProp 𝕄 := accPts c (lo (k + 1) (prt k c)) (sz k) fullShare (FIN m)
/-- The share that comes back from a transfer of the spreading back. -/
def agSnd (c : Dev nD) (k : ℕ) : sProp 𝕄 := accPts c (lo (k + 1) c) (sz k) fullShare.left (FIN m)

instance barPay_storable (c : Dev nD) (k : ℕ) : BI.Storable (upEmb : UEmb _ 𝕄) (barPay (F := F) c k) := by unfold barPay; infer_instance
instance rsPay_storable (c : Dev nD) (k : ℕ) : BI.Storable (upEmb : UEmb _ 𝕄) (rsPay (F := F) m c k) := by unfold rsPay; infer_instance
instance agPay_storable (c : Dev nD) (k : ℕ) : BI.Storable (upEmb : UEmb _ 𝕄) (agPay (F := F) m c k) := by unfold agPay; infer_instance
instance agSnd_storable (c : Dev nD) (k : ℕ) : BI.Storable (upEmb : UEmb _ 𝕄) (agSnd (F := F) m c k) := by unfold agSnd; infer_instance

/-- The payload of DMA semaphore `q`'s one duty on device `c`. -/
def dmaPay (c : Dev nD) (q : DmaSem sig) : sProp 𝕄 :=
  if q.val < 11 then iprop(emp) else if q.val < 16 then agSnd m c (15 - q.val) else if q.val < 21 then rsPay m c (q.val - 16) else agPay m c (25 - q.val)

instance dmaPay_storable (c : Dev nD) (q : DmaSem sig) : BI.Storable (upEmb : UEmb _ 𝕄) (dmaPay (F := F) m c q) := by
  unfold dmaPay; (repeat' split) <;> infer_instance

/-- The exchange: which arrivals each counter expects, of how much, and what each of them hands over. -/
def exRd : Rounds.Schedule (GSem nD τ sig) (Fin 5) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma q => crN (sz (lvl (stepOf q) % 5))
  payload g _ d := match g.2 with | .reg s => if s = barS then barPay g.1.1 d.val else iprop(emp) | .dma q => dmaPay m g.1.1 q
  amount_pos g _ _ _ := by
    match h : g.2 with
    | .reg _ => exact Nat.one_pos
    | .dma q => exact crN_pos _ (Nat.mod_lt _ (by decide))

instance exRd_payload_storable (g : GSem nD τ sig) (r : ℕ) (d : Fin 5) :
    BI.Storable (upEmb : UEmb _ 𝕄) ((exRd (F := F) m).payload g r d) := by
  show BI.Storable upEmb (match g.2 with | .reg s => if s = barS then barPay g.1.1 d.val else iprop(emp) | .dma q => dmaPay m g.1.1 q)
  split
  · split <;> infer_instance
  · infer_instance

section Sched
variable (c : Dev nD)

/-- The place of a sending counter, -/
theorem snd_val : ∀ t < 10, (sndS t).val = 6 + t := by decide +kernel
/-- and of a receiving one. -/
theorem rcv_val : ∀ t < 10, (rcvS t).val = 16 + t := by decide +kernel

omit [FloatOps F] in
/-- Every counter serves one round. -/
theorem duties_later (_f : FloatOps F) (g : GSem nD τ sig) : ∀ r, 1 ≤ r → (exRd (F := F) m).duties g r = ∅ :=
  fun r hr => by dsimp only [exRd]; rw [if_neg fun h => by omega]

/-- A barrier expects five arrivals. -/
theorem duties_reg (s : Sem sig) : (exRd (F := F) m).duties ((c : Thread nD τ), .reg s) 0 = Finset.univ := by
  dsimp only [exRd]; exact if_pos ⟨rfl, rfl⟩
/-- A copy's counter expects one, -/
theorem duties_dma (q : DmaSem sig) (h : 6 ≤ q.val) : (exRd (F := F) m).duties ((c : Thread nD τ), .dma q) 0 = {0} := by
  dsimp only [exRd]; rw [if_pos ⟨rfl, rfl⟩, if_pos h]
/-- a sending counter too, -/
theorem duties_snd (t : ℕ) (ht : t < 10) : (exRd (F := F) m).duties ((c : Thread nD τ), .dma (sndS t)) 0 = {0} :=
  duties_dma m c _ (by rw [snd_val t ht]; omega)
/-- and a receiving one. -/
theorem duties_rcv (t : ℕ) (ht : t < 10) : (exRd (F := F) m).duties ((c : Thread nD τ), .dma (rcvS t)) 0 = {0} :=
  duties_dma m c _ (by rw [rcv_val t ht]; omega)

/-- An arrival at a barrier counts one. -/
theorem amount_reg (s : Sem sig) (d : Fin 5) : (exRd (F := F) m).amount ((c : Thread nD τ), .reg s) 0 d = 1 := rfl
/-- The level of a sending counter is its step's, -/
theorem lvl_snd : ∀ t < 10, lvl (stepOf (sndS t)) % 5 = lvl t := by decide +kernel
/-- and so of a receiving one. -/
theorem lvl_rcv : ∀ t < 10, lvl (stepOf (rcvS t)) % 5 = lvl t := by decide +kernel
/-- An arrival at a sending counter counts the level's rows, -/
theorem amount_snd (t : ℕ) (ht : t < 10) (d : Fin 5) : (exRd (F := F) m).amount ((c : Thread nD τ), .dma (sndS t)) 0 d = crN (sz (lvl t)) := by
  dsimp only [exRd]; rw [lvl_snd t ht]
/-- and at a receiving one. -/
theorem amount_rcv (t : ℕ) (ht : t < 10) (d : Fin 5) : (exRd (F := F) m).amount ((c : Thread nD τ), .dma (rcvS t)) 0 d = crN (sz (lvl t)) := by
  dsimp only [exRd]; rw [lvl_rcv t ht]

/-- A barrier waits for five. -/
theorem expect_reg (s : Sem sig) : (exRd (F := F) m).expect ((c : Thread nD τ), .reg s) 0 = 5 := by
  unfold Schedule.expect Schedule.amountOf
  rw [duties_reg, Finset.sum_congr rfl fun d _ => amount_reg m c s d, Finset.sum_const, Finset.card_univ, Fintype.card_fin, smul_eq_mul]
/-- A sending counter waits for its copy, -/
theorem expect_snd (t : ℕ) (ht : t < 10) : (exRd (F := F) m).expect ((c : Thread nD τ), .dma (sndS t)) 0 = crN (sz (lvl t)) := by
  unfold Schedule.expect Schedule.amountOf; rw [duties_snd m c t ht, Finset.sum_singleton, amount_snd m c t ht]
/-- and a receiving one. -/
theorem expect_rcv (t : ℕ) (ht : t < 10) : (exRd (F := F) m).expect ((c : Thread nD τ), .dma (rcvS t)) 0 = crN (sz (lvl t)) := by
  unfold Schedule.expect Schedule.amountOf; rw [duties_rcv m c t ht, Finset.sum_singleton, amount_rcv m c t ht]

/-- An arrival at the barrier hands over the partner's regions. -/
theorem payload_bar (d : Fin 5) : (exRd (F := F) m).payload ((c : Thread nD τ), .reg barS) 0 d = barPay c d.val := by
  dsimp only [exRd]; exact if_pos rfl
/-- An arrival at the exit hands over nothing. -/
theorem payload_ex (d : Fin 5) : (exRd (F := F) m).payload ((c : Thread nD τ), .reg exS) 0 d = iprop(emp) := by
  dsimp only [exRd]; exact if_neg (by decide)
/-- A copy's counter hands over what its step says: -/
theorem payload_dma (q : DmaSem sig) (d : Fin 5) : (exRd (F := F) m).payload ((c : Thread nD τ), .dma q) 0 d = dmaPay m c q := rfl
/-- nothing to the sender while halving, -/
theorem payload_rsSnd (t : ℕ) (ht : t < 5) (d : Fin 5) : (exRd (F := F) m).payload ((c : Thread nD τ), .dma (sndS t)) 0 d = iprop(emp) := by
  rw [payload_dma, dmaPay, snd_val t (by omega), if_pos (by omega)]
/-- the sent rows' other share to the sender while doubling, -/
theorem payload_agSnd (t : ℕ) (h5 : 5 ≤ t) (ht : t < 10) (d : Fin 5) : (exRd (F := F) m).payload ((c : Thread nD τ), .dma (sndS t)) 0 d = agSnd m c (lvl t) := by
  rw [payload_dma, dmaPay, snd_val t ht, if_neg (by omega), if_pos (by omega), lvl, if_neg (by omega)]; congr 1; omega
/-- the partner's partial rows to the receiver while halving, -/
theorem payload_rsRcv (t : ℕ) (ht : t < 5) (d : Fin 5) : (exRd (F := F) m).payload ((c : Thread nD τ), .dma (rcvS t)) 0 d = rsPay m c t := by
  rw [payload_dma, dmaPay, rcv_val t (by omega), if_neg (by omega), if_neg (by omega), if_pos (by omega)]; congr 1; omega
/-- and the partner's reduced rows while doubling. -/
theorem payload_agRcv (t : ℕ) (h5 : 5 ≤ t) (ht : t < 10) (d : Fin 5) : (exRd (F := F) m).payload ((c : Thread nD τ), .dma (rcvS t)) 0 d = agPay m c (lvl t) := by
  rw [payload_dma, dmaPay, rcv_val t ht, if_neg (by omega), if_neg (by omega), if_neg (by omega), lvl, if_neg (by omega)]; congr 1; omega

/-- The rest of a round of which no duty is taken: every duty's payload. -/
theorem rest_bar : bigSep ((exRd (F := F) m).duties ((c : Thread nD τ), .reg barS) 0 \ ∅) (fun d => (exRd (F := F) m).payload ((c : Thread nD τ), .reg barS) 0 d)
    = iprop(barPay c 0 ∗ barPay c 1 ∗ barPay c 2 ∗ barPay c 3 ∗ barPay c 4) := by
  rw [Finset.sdiff_empty, duties_reg, bigSep_univ_eq_bigSepL [0, 1, 2, 3, 4] (by decide) (by decide)]
  simp only [bigSepL_cons_cons, bigSepL_singleton, payload_bar]
  rfl
/-- All that a sending counter hands over is its step's, -/
theorem rest_snd (t : ℕ) (ht : t < 10) : bigSep ((exRd (F := F) m).duties ((c : Thread nD τ), .dma (sndS t)) 0 \ ∅) (fun d => (exRd (F := F) m).payload ((c : Thread nD τ), .dma (sndS t)) 0 d)
    = (exRd (F := F) m).payload ((c : Thread nD τ), .dma (sndS t)) 0 0 := by
  rw [Finset.sdiff_empty, duties_snd m c t ht, bigSep_singleton]
/-- and so of a receiving one. -/
theorem rest_rcv (t : ℕ) (ht : t < 10) : bigSep ((exRd (F := F) m).duties ((c : Thread nD τ), .dma (rcvS t)) 0 \ ∅) (fun d => (exRd (F := F) m).payload ((c : Thread nD τ), .dma (rcvS t)) 0 d)
    = (exRd (F := F) m).payload ((c : Thread nD τ), .dma (rcvS t)) 0 0 := by
  rw [Finset.sdiff_empty, duties_rcv m c t ht, bigSep_singleton]

end Sched

/-! ## What each device owes, in the order it pays: barriers, receives, exits -/

/-- The counter of the device's `j`-th due: five arrivals at barriers, ten copies, five arrivals at exits. -/
def dueSem (j : ℕ) : SemLoc sig := if j < 5 then .reg barS else if j < 15 then .dma (rcvS (j - 5)) else .reg exS
/-- The level at which due `j` is paid. -/
def dueLvl (j : ℕ) : ℕ := if j < 5 then j else if j < 15 then lvl (j - 5) else j - 15
/-- How much it counts. -/
def dueN (j : ℕ) : ℕ := if j < 5 then 1 else if j < 15 then crN (sz (lvl (j - 5))) else 1
/-- The device it is owed to, -/
def dueDev (j : ℕ) (c : Dev nD) : Dev nD := prt (dueLvl j) c
/-- and that device's counter. -/
def dueCell (j : ℕ) (c : Dev nD) : GSem nD τ sig := ((dueDev j c : Thread nD τ), dueSem j)

/-- What device `c` owes of a list of dues. -/
def owe (c : Dev nD) : List ℕ → CellTallies nD τ sig Unit
  | [] => 0
  | j :: l => owe c l + tallyAt (dueCell j c) () (dueN j)

/-- What device `c` owes once the first `i` dues are paid, `n` of them left. -/
def O (c : Dev nD) (i n : ℕ) : CellTallies nD τ sig Unit := owe c (List.range' i n)
/-- What it owes at first. -/
abbrev O₀ (c : Dev nD) : CellTallies nD τ sig Unit := O c 0 20

/-- The first due of a run of them, and the rest. -/
theorem O_succ (c : Dev nD) (i n : ℕ) : O c i (n + 1) = O c (i + 1) n + tallyAt (dueCell i c) () (dueN i) := rfl
/-- Nothing is owed of none. -/
theorem O_zero (c : Dev nD) (i : ℕ) : O c i 0 = 0 := rfl

/-! ## Levels -/

/-- A device's counters are levelled, -/
def L (g : GSem nD τ sig) : Finset Unit := if g.1.2 = .tc then {()} else ∅
/-- Staging and send cells at 0, barriers at 1, receive `t` at `2 + t`, exits at 12. -/
def lvS (sm : SemLoc sig) : ℕ := match sm with | .reg s => if s = barS then 1 else 12 | .dma q => if q.val < 16 then 0 else q.val - 14
/-- each by its place in the order of waits. -/
def lv (g : GSem nD τ sig) (_ : Unit) : ℕ := lvS g.2

/-- Other threads have none. -/
theorem L_of_ne (g : GSem nD τ sig) (h : g.1.2 ≠ .tc) : L g = ∅ := if_neg h
/-- The device's have. -/
theorem L_tc (c : Dev nD) (sm : SemLoc sig) : L ((c : Thread nD τ), sm) = {()} := if_pos rfl

/-- What is owed at a counter is one of the dues. -/
theorem owe_pos {c : Dev nD} {g : GSem nD τ sig} {u : Unit} : ∀ {l : List ℕ}, 0 < owe c l g u → ∃ j ∈ l, g = dueCell j c
  | [], h => absurd h (Nat.lt_irrefl 0)
  | j :: l, h => by
    unfold owe at h
    rw [Pi.add_apply, Finsupp.add_apply, tallyAt_apply] at h
    by_cases hg : g = dueCell j c ∧ u = ()
    · exact ⟨j, List.mem_cons_self, hg.1⟩
    · rw [if_neg hg, Nat.add_zero] at h
      obtain ⟨j', hj', e⟩ := owe_pos h
      exact ⟨j', List.mem_cons_of_mem _ hj', e⟩

/-- A device may wait on a cell below everything it still owes. -/
theorem mayWait (c : Dev nD) (sm : SemLoc sig) (i n : ℕ) (h : ∀ j ∈ List.range' i n, lvS sm < lvS (dueSem j)) :
    (levAts L lv : sProp 𝕄) ⊢ MayWait (c : Thread nD τ) sm () (O c i n) :=
  MayOwe.of_cut (L := L) (lev := lv) (lvS sm) (fun p hp => by rw [Finset.mem_singleton.mp hp, L_tc]; exact Finset.mem_singleton_self _)
    (fun g u hg => by obtain ⟨j, hj, rfl⟩ := owe_pos hg; exact Finset.mem_singleton_self _)
    (fun p hp => by rw [Finset.mem_singleton.mp hp]; exact le_refl _)
    (fun g u hg => by obtain ⟨j, hj, rfl⟩ := owe_pos hg; exact h j hj)

end Cert.MoeProof

end
-- ==== Proof.Steps.lean ====
/-
  The rules of the protocol's operations on one device: the barrier's and the exit's signals, the sends of both halves,
  and the waits; each at the step it belongs to.
-/
module

public import proofs.«01_k».proof.Proof.Protocol

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 22 → ℕ)

/-! ## What every device may know -/

/-- That every cell runs its schedule, and is past nothing. -/
def records : sProp 𝕄 :=
  iprop((bigSep Finset.univ fun ck : Dev nD × Fin 22 => cellInv ER (exRd m) (K ck) (kcell ck))
    ∗ bigSep Finset.univ fun ck : Dev nD × Fin 22 => reached ER (kcell ck) 0)
instance records_persistent : BI.Persistent (records (F := F) m K) := by unfold records; infer_instance

/-- What every device knows: the records and the levels. -/
def env : sProp 𝕄 := iprop(records m K ∗ levAts L lv)
instance env_persistent : BI.Persistent (env (F := F) m K) := by unfold env; infer_instance

/-- The place of step `t`'s sending counter, -/
def jS (t : ℕ) : Fin 22 := ⟨(2 + t) % 22, Nat.mod_lt _ (by decide)⟩
/-- and of its receiving counter, -/
def jR (t : ℕ) : Fin 22 := ⟨(12 + t) % 22, Nat.mod_lt _ (by decide)⟩
/-- which is the sending counter -/
theorem csem_jS : ∀ t < 10, csem (jS t) = .dma (sndS t) := by decide +kernel
/-- and the receiving counter. -/
theorem csem_jR : ∀ t < 10, csem (jR t) = .dma (rcvS t) := by decide +kernel
/-- The first counter is the barrier's, -/
theorem csem_bar : csem 0 = .reg barS := rfl
/-- and the second the exit's. -/
theorem csem_ex : csem 1 = .reg exS := rfl

/-- Any one cell's record is among them, -/
theorem inv_all (ck : Dev nD × Fin 22) :
    (bigSep Finset.univ fun ck : Dev nD × Fin 22 => (cellInv ER (exRd (F := F) m) (K ck) (kcell ck) : sProp 𝕄)) ⊢ cellInv ER (exRd m) (K ck) (kcell ck) :=
  bigSep_elim (Finset.mem_univ ck)
omit [FloatOps F] in
/-- and that its round is reached. -/
theorem reached_all (ck : Dev nD × Fin 22) :
    (bigSep Finset.univ fun ck : Dev nD × Fin 22 => (reached ER (kcell ck) 0 : sProp 𝕄)) ⊢ reached ER (kcell ck) 0 :=
  bigSep_elim (Finset.mem_univ ck)

/-- The same, of a counter by its name, -/
theorem env_cell (d : Dev nD) (j : Fin 22) (sm : SemLoc sig) (h : csem j = sm) :
    env (F := F) m K ⊢ cellInv ER (exRd m) (K (d, j)) ((d : Thread nD τ), sm) := by
  subst h
  unfold env records
  iintro ⟨⟨HI, -⟩, -⟩
  iapply (inv_all m K (d, j)); iexact HI
/-- its round, -/
theorem env_reached (d : Dev nD) (j : Fin 22) (sm : SemLoc sig) (h : csem j = sm) :
    env (F := F) m K ⊢ reached ER ((d : Thread nD τ), sm) 0 := by
  subst h
  unfold env records
  iintro ⟨⟨-, HR⟩, -⟩
  iapply (reached_all (F := F) (d, j)); iexact HR
/-- and the levels. -/
theorem env_lev : env (F := F) m K ⊢ levAts L lv := by
  unfold env; iintro ⟨-, H⟩; iexact H

/-! ## What a device owes once it has paid the first `i` dues -/

/-- What the device owes once `i` dues are paid. -/
def owesS (c : Dev nD) (i : ℕ) : sProp 𝕄 := iprop(∃ W, owes (c : Thread nD τ) (O c i (20 - i)) W)

/-- The next due, and what is owed after it. -/
theorem O_pay (c : Dev nD) {i : ℕ} (hi : i < 20) : O c i (20 - i) = O c (i + 1) (20 - (i + 1)) + tallyAt (dueCell i c) () (dueN i) := by
  rw [show 20 - i = (20 - (i + 1)) + 1 by omega]; rfl

/-- The first five dues are arrivals at the partners' barriers, -/
theorem due_bar (c : Dev nD) {k : ℕ} (h : k < 5) : dueCell k c = ((prt k c : Thread nD τ), .reg barS) ∧ dueN k = 1 := by
  unfold dueCell dueDev dueSem dueLvl dueN
  rw [if_pos h, if_pos h, if_pos h]; exact ⟨rfl, rfl⟩
/-- the next ten the copies to the partners, -/
theorem due_rcv (c : Dev nD) {t : ℕ} (h : t < 10) :
    dueCell (5 + t) c = ((prt (lvl t) c : Thread nD τ), .dma (rcvS t)) ∧ dueN (5 + t) = crN (sz (lvl t)) := by
  unfold dueCell dueDev dueSem dueLvl dueN
  simp only [if_neg (show ¬ 5 + t < 5 by omega), if_pos (show 5 + t < 15 by omega), Nat.add_sub_cancel_left, and_self]
/-- and the last five arrivals at the partners' exits. -/
theorem due_ex (c : Dev nD) {k : ℕ} (h : k < 5) : dueCell (15 + k) c = ((prt k c : Thread nD τ), .reg exS) ∧ dueN (15 + k) = 1 := by
  unfold dueCell dueDev dueSem dueLvl dueN
  simp only [if_neg (show ¬ 15 + k < 5 by omega), if_neg (show ¬ 15 + k < 15 by omega), Nat.add_sub_cancel_left, and_self]

/-! ## The signals -/

variable (c : Dev nD)

/-- A unit to the level-`k` partner's barrier, with this device's level-`k` receive region. -/
theorem wp_barSig {k : ℕ} (hk : k < 5) {dv : Dev nD} (hdv : dv = prt k c) {sm : Sem sig} (hs : sm = barS) {n : ℕ} (hn : n = 1)
    {α : Type} {Q : α → sProp 𝕄} {kk : PUnit → Prog (TpuEff nD τ sig (Elt F) Λ₀ .tc) α} :
    iprop(env m K ∗ owesS c k ∗ dutyTok ER ((prt k c : Thread nD τ), .reg barS) 0 (⟨k, hk⟩ : Fin 5) ∗ (∃ f, comPts (F := F) c (st k) (sz k) f))
      ⊢ iprop((owesS c (k + 1) -∗ WP c (kk ⟨⟩) Q) -∗ WP c (.op (.semSignal (dv : Thread nD τ) sm n) kk) Q) := by
  subst hdv hs hn
  have hO : O c k (20 - k) = O c (k + 1) (20 - (k + 1)) + tallyAt ((prt k c : Thread nD τ), .reg barS) () 1 := by
    rw [O_pay c (show k < 20 by omega), (due_bar c hk).1, (due_bar c hk).2]
  unfold owesS
  iintro ⟨#He, ⟨%W, HO⟩, Ht, Hp⟩ Hk
  iapply (Rounds.wp_signal 𝒱₀ ER (exRd m) (c : Thread nD τ) none (dst := (prt k c : Thread nD τ)) (κ := K (prt k c, 0)) (d := (⟨k, hk⟩ : Fin 5))
      (by rw [duties_reg]; exact Finset.mem_univ _) (amount_reg m (prt k c) barS _) () (O c (k + 1) (20 - (k + 1))) hO) $$ [HO Ht Hp]
  · isplitr; · iapply (env_cell m K (prt k c) 0 _ csem_bar); iexact He
    isplitl [HO]; · iexact HO
    isplitl [Ht]; · iexact Ht
    isplitl [Hp]
    · rw [payload_bar]; unfold barPay; rw [prt_prt k hk]; iexact Hp
    iapply (env_reached m K (prt k c) 0 _ csem_bar); iexact He
  iintro HO
  iapply Hk
  iexists W; iexact HO

/-- A unit to the level-`k` partner's exit semaphore. -/
theorem wp_exSig {k : ℕ} (hk : k < 5) {dv : Dev nD} (hdv : dv = prt k c) {sm : Sem sig} (hs : sm = exS) {n : ℕ} (hn : n = 1)
    {α : Type} {Q : α → sProp 𝕄} {kk : PUnit → Prog (TpuEff nD τ sig (Elt F) Λ₀ .tc) α} :
    iprop(env m K ∗ owesS c (15 + k) ∗ dutyTok ER ((prt k c : Thread nD τ), .reg exS) 0 (⟨k, hk⟩ : Fin 5))
      ⊢ iprop((owesS c (15 + k + 1) -∗ WP c (kk ⟨⟩) Q) -∗ WP c (.op (.semSignal (dv : Thread nD τ) sm n) kk) Q) := by
  subst hdv hs hn
  have hO : O c (15 + k) (20 - (15 + k)) = O c (15 + k + 1) (20 - (15 + k + 1)) + tallyAt ((prt k c : Thread nD τ), .reg exS) () 1 := by
    rw [O_pay c (show 15 + k < 20 by omega), (due_ex c hk).1, (due_ex c hk).2]
  unfold owesS
  iintro ⟨#He, ⟨%W, HO⟩, Ht⟩ Hk
  iapply (Rounds.wp_signal 𝒱₀ ER (exRd m) (c : Thread nD τ) none (dst := (prt k c : Thread nD τ)) (κ := K (prt k c, 1)) (d := (⟨k, hk⟩ : Fin 5))
      (by rw [duties_reg]; exact Finset.mem_univ _) (amount_reg m (prt k c) exS _) () (O c (15 + k + 1) (20 - (15 + k + 1))) hO) $$ [HO Ht]
  · isplitr; · iapply (env_cell m K (prt k c) 1 _ csem_ex); iexact He
    isplitl [HO]; · iexact HO
    isplitl [Ht]; · iexact Ht
    isplitr
    · rw [payload_ex]; iempintro
    iapply (env_reached m K (prt k c) 1 _ csem_ex); iexact He
  iintro HO
  iapply Hk
  iexists W; iexact HO

/-! ## The waits -/

/-- The barrier's wait: every partner's receive region for this device's transfers. -/
theorem wp_barWait {sm : Sem sig} (hs : sm = barS) {n : ℕ} (hn : n = 5)
    {α : Type} {Q : α → sProp 𝕄} {kk : PUnit → Prog (TpuEff nD τ sig (Elt F) Λ₀ .tc) α} :
    iprop(env m K ∗ cred (tallyAt ((c : Thread nD τ), .reg barS) () 5) ∗ owesS c 5 ∗ atPos ER ((c : Thread nD τ), .reg barS) 0 ∅ 0)
      ⊢ iprop(((owesS c 5 ∗ atPos ER ((c : Thread nD τ), .reg barS) 1 ∅ 0 ∗ barPay c 0 ∗ barPay c 1 ∗ barPay c 2 ∗ barPay c 3 ∗ barPay c 4) -∗ WP c (kk ⟨⟩) Q)
        -∗ WP c (.op (.semWait sm n) kk) Q) := by
  subst hs hn
  unfold owesS
  iintro ⟨#He, Hc, ⟨%W, HO⟩, Ha⟩ Hk
  iapply (Rounds.wp_wait_rest_token 𝒱₀ ER (exRd m) (c : Thread nD τ) none (κ := K (c, 0))
      (wpE_semWait_eq 𝒱₀ (c : Thread nD τ) none Set.univ) (Set.mem_univ _) () (O := O c 5 (20 - 5)) (W := W) (R := 0) (m := 0) (T := ∅)
      (by rw [expect_reg])) $$ [Hc HO Ha]
  · isplitr; · iapply (env_cell m K c 0 _ csem_bar); iexact He
    isplitl [Hc]; · iexact Hc
    isplitl [HO]; · iexact HO
    isplitr; · iapply (mayWait c (.reg barS) 5 (20 - 5) (by decide)); iapply (env_lev m K); iexact He
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-- The exit's wait. -/
theorem wp_exWait {sm : Sem sig} (hs : sm = exS) {n : ℕ} (hn : n = 5)
    {α : Type} {Q : α → sProp 𝕄} {kk : PUnit → Prog (TpuEff nD τ sig (Elt F) Λ₀ .tc) α} :
    iprop(env m K ∗ cred (tallyAt ((c : Thread nD τ), .reg exS) () 5) ∗ owesS c 20 ∗ atPos ER ((c : Thread nD τ), .reg exS) 0 ∅ 0)
      ⊢ iprop(((owesS c 20 ∗ atPos ER ((c : Thread nD τ), .reg exS) 1 ∅ 0) -∗ WP c (kk ⟨⟩) Q)
        -∗ WP c (.op (.semWait sm n) kk) Q) := by
  subst hs hn
  unfold owesS
  iintro ⟨#He, Hc, ⟨%W, HO⟩, Ha⟩ Hk
  iapply (Rounds.wp_wait_rest_token 𝒱₀ ER (exRd m) (c : Thread nD τ) none (κ := K (c, 1))
      (wpE_semWait_eq 𝒱₀ (c : Thread nD τ) none Set.univ) (Set.mem_univ _) () (O := O c 20 (20 - 20)) (W := W) (R := 0) (m := 0) (T := ∅)
      (by rw [expect_reg])) $$ [Hc HO Ha]
  · isplitr; · iapply (env_cell m K c 1 _ csem_ex); iexact He
    isplitl [Hc]; · iexact Hc
    isplitl [HO]; · iexact HO
    isplitr; · iapply (mayWait c (.reg exS) 20 (20 - 20) (by decide)); iapply (env_lev m K); iexact He
    iexact Ha
  iintro ⟨HO, Ha, -, -⟩
  iapply Hk
  isplitl [HO]; · iexists _; iexact HO
  iexact Ha

/-! ## A transfer's life -/

/-- A device's sending counter, -/
abbrev sndC (t : ℕ) (c : Dev nD) : GSem nD τ sig := ((c : Thread nD τ), .dma (sndS t))
/-- and its receiving counter. -/
abbrev rcvC (t : ℕ) (c : Dev nD) : GSem nD τ sig := ((c : Thread nD τ), .dma (rcvS t))

/-- Before step `t`'s send. -/
def stepRes (t : ℕ) : sProp 𝕄 :=
  iprop(dutyTok ER (sndC t c) 0 (0 : Fin 5) ∗ dutyTok ER (rcvC t (prt (lvl t) c)) 0 (0 : Fin 5) ∗ cred (tallyAt (rcvC t c) () (crN (sz (lvl t))))
    ∗ atPos ER (sndC t c) 0 ∅ 0 ∗ atPos ER (rcvC t c) 0 ∅ 0)
/-- Between the send and its wait. -/
def stepSent (t : ℕ) : sProp 𝕄 :=
  iprop(cred (tallyAt (sndC t c) () (crN (sz (lvl t)))) ∗ cred (tallyAt (rcvC t c) () (crN (sz (lvl t)))) ∗ atPos ER (sndC t c) 0 ∅ 0 ∗ atPos ER (rcvC t c) 0 ∅ 0)
/-- Between the two waits. -/
def stepLeft (t : ℕ) : sProp 𝕄 :=
  iprop(cred (tallyAt (rcvC t c) () (crN (sz (lvl t)))) ∗ atPos ER (sndC t c) 1 ∅ 0 ∗ atPos ER (rcvC t c) 0 ∅ 0)
/-- After both waits. -/
def stepDone (t : ℕ) : sProp 𝕄 := iprop(atPos ER (sndC t c) 1 ∅ 0 ∗ atPos ER (rcvC t c) 1 ∅ 0)

/-- A sending counter is waited for before all that is then still owed, -/
theorem lv_snd : ∀ t < 10, ∀ j ∈ List.range' (6 + t) (20 - (6 + t)), lvS (.dma (sndS t)) < lvS (dueSem j) := by decide +kernel
/-- and so is a receiving one. -/
theorem lv_rcv : ∀ t < 10, ∀ j ∈ List.range' (6 + t) (20 - (6 + t)), lvS (.dma (rcvS t)) < lvS (dueSem j) := by decide +kernel

section Waits
variable {sp sp' : Space} {s s' : Shape} {e e' : EltTy} {src : Memref sig .tc sp' s' e'} {dst : Memref sig .tc sp s e}
  {hsrc : src.view.WordExact} {hdst : dst.view.WordExact}

/-- The wait for step `t`'s send. -/
theorem wp_sndWait {t : ℕ} (ht : t < 10) {sm : DmaSem sig} (hs : sm = sndS t) (hN : dst.view.dmaCredit = crN (sz (lvl t)))
    {α : Type} {Q : α → sProp 𝕄} {kk : PUnit → Prog (TpuEff nD τ sig (Elt F) Λ₀ .tc) α} :
    iprop(env m K ∗ stepSent c t ∗ owesS c (6 + t))
      ⊢ iprop(((stepLeft c t ∗ owesS c (6 + t) ∗ (exRd (F := F) m).payload (sndC t c) 0 0) -∗ WP c (kk ⟨⟩) Q)
        -∗ WP c (.op (.waitDma2 sm src dst hsrc hdst) kk) Q) := by
  subst hs
  have hE : 0 + dst.view.dmaCredit = (exRd (F := F) m).expect (sndC t c) 0 := by rw [Nat.zero_add, hN, expect_snd m c t ht]
  have hC : (cred (tallyAt (sndC t c) () (crN (sz (lvl t)))) : sProp 𝕄) ⊢ cred (tallyAt (sndC t c) () dst.view.dmaCredit) := by rw [hN]
  unfold owesS stepSent stepLeft
  iintro ⟨#He, ⟨Hc, Hcr, Ha, Hr⟩, ⟨%W, HO⟩⟩ Hk
  iapply (Rounds.wp_wait_rest_token 𝒱₀ ER (exRd m) (c : Thread nD τ) none (κ := K (c, jS t))
      (wpE_waitDma2_eq 𝒱₀ (c : Thread nD τ) none Set.univ) (Set.mem_univ _) () (O := O c (6 + t) (20 - (6 + t))) (W := W) (R := 0) (m := 0) (T := ∅)
      hE) $$ [Hc HO Ha]
  · isplitr; · iapply (env_cell m K c (jS t) _ (csem_jS t ht)); iexact He
    isplitl [Hc]; · iapply hC; iexact Hc
    isplitl [HO]; · iexact HO
    isplitr; · iapply (mayWait c (.dma (sndS t)) _ _ (lv_snd t ht)); iapply (env_lev m K); iexact He
    iexact Ha
  iintro ⟨HO, Ha, -, Hp⟩
  ihave Hp := (Entails.of_eq (rest_snd m c t ht)) $$ Hp
  iapply Hk
  isplitl [Ha Hcr Hr]
  · isplitl [Hcr]; · iexact Hcr
    isplitl [Ha]; · iexact Ha
    iexact Hr
  isplitl [HO]; · iexists _; iexact HO
  iexact Hp

/-- The wait for step `t`'s landing. -/
theorem wp_rcvWait {t : ℕ} (ht : t < 10) {sm : DmaSem sig} (hs : sm = rcvS t) (hN : dst.view.dmaCredit = crN (sz (lvl t)))
    {α : Type} {Q : α → sProp 𝕄} {kk : PUnit → Prog (TpuEff nD τ sig (Elt F) Λ₀ .tc) α} :
    iprop(env m K ∗ stepLeft c t ∗ owesS c (6 + t))
      ⊢ iprop(((stepDone c t ∗ owesS c (6 + t) ∗ (exRd (F := F) m).payload (rcvC t c) 0 0) -∗ WP c (kk ⟨⟩) Q)
        -∗ WP c (.op (.waitDma2 sm src dst hsrc hdst) kk) Q) := by
  subst hs
  have hE : 0 + dst.view.dmaCredit = (exRd (F := F) m).expect (rcvC t c) 0 := by rw [Nat.zero_add, hN, expect_rcv m c t ht]
  have hC : (cred (tallyAt (rcvC t c) () (crN (sz (lvl t)))) : sProp 𝕄) ⊢ cred (tallyAt (rcvC t c) () dst.view.dmaCredit) := by rw [hN]
  unfold owesS stepLeft stepDone
  iintro ⟨#He, ⟨Hc, Ha, Hr⟩, ⟨%W, HO⟩⟩ Hk
  iapply (Rounds.wp_wait_rest_token 𝒱₀ ER (exRd m) (c : Thread nD τ) none (κ := K (c, jR t))
      (wpE_waitDma2_eq 𝒱₀ (c : Thread nD τ) none Set.univ) (Set.mem_univ _) () (O := O c (6 + t) (20 - (6 + t))) (W := W) (R := 0) (m := 0) (T := ∅)
      hE) $$ [Hc HO Hr]
  · isplitr; · iapply (env_cell m K c (jR t) _ (csem_jR t ht)); iexact He
    isplitl [Hc]; · iapply hC; iexact Hc
    isplitl [HO]; · iexact HO
    isplitr; · iapply (mayWait c (.dma (rcvS t)) _ _ (lv_rcv t ht)); iapply (env_lev m K); iexact He
    iexact Hr
  iintro ⟨HO, Hr, -, Hp⟩
  ihave Hp := (Entails.of_eq (rest_rcv m c t ht)) $$ Hp
  iapply Hk
  isplitl [Ha Hr]
  · isplitl [Ha]; · iexact Ha
    iexact Hr
  isplitl [HO]; · iexists _; iexact HO
  iexact Hp

end Waits

/-! ## The sends -/

/-- While halving, a step's level is its number. -/
theorem lvl_lo {t : ℕ} (h : t < 5) : lvl t = t := if_pos h

section Sends
variable {n n' : ℕ} {dv : Dev nD} {o o' : Fin 2 → ℕ} {sS sR : DmaSem sig}

section RS
variable {inb : ∀ d, o d + (⟨2, ![n, 512]⟩ : Shape).size d ≤ (⟨2, ![1024, 512]⟩ : Shape).size d}
  {inb' : ∀ d, o' d + (⟨2, ![n, 512]⟩ : Shape).size d ≤ (⟨2, ![992, 512]⟩ : Shape).size d}
  {h1 : ∀ a, (rowRect 1024 n o inb).stride a = 1} {h2 : ∀ a, (rowRect 992 n o' inb').stride a = 1}

/-- Reading a landed row of the receive buffer: the partner's partial sums of the corresponding row. -/
theorem landed_apply {k : ℕ} (hk : k < 5) (hn : n = sz k) (ho : o = ![lo (k + 1) c, 0]) (ho' : o' = ![st k, 0]) (x : (⟨2, ![n, 512]⟩ : Shape).Idx) :
    landed m k c ((rowRect 992 n o' inb').emb x) = A m k (prt k c) ((rowRect 1024 n o inb).emb x) := by
  obtain ⟨h0, h1⟩ := emb_rows (inb := inb') ho' x
  have hx : (x 0).val < n := (x 0).isLt
  have hl := lo_le k hk c
  rw [emb_rows_eq (inb := inb) ho x (by omega)]
  unfold landed
  refine congrArg (A m k (prt k c)) (congr (congrArg ix2 (Fin.ext ?_)) h1)
  show (((rowRect 992 n o' inb').emb x 0).val - st k + lo (k + 1) c) % 1024 = lo (k + 1) c + (x 0).val
  rw [h0, Nat.add_sub_cancel_left, Nat.add_comm]
  exact Nat.mod_eq_of_lt (by omega)

/-- What the landing of step `k` of the reduction leaves is what the partner's receive hands over. -/
theorem rs_pay {k : ℕ} (hk : k < 5) (hn : n = sz k) (ho : o = ![lo (k + 1) (prt k c), 0]) (ho' : o' = ![st k, 0]) (f : Vec F S992x512 .bf16) :
    iprop((((comM.slice (rowRect 992 n o' inb') h2).view.loc (prt k c : Thread nD τ)) ↦[(comM.slice (rowRect 992 n o' inb') h2).view.set]{fullShare}
          ((comM.slice (rowRect 992 n o' inb') h2).view.write (Elt F) f ((accM.slice (rowRect 1024 n o inb) h1).view.read (Elt F) (A m k c)) Finset.univ))
        ∗ (((accM.slice (rowRect 1024 n o inb) h1).view.loc (c : Thread nD τ)) ↦[(accM.slice (rowRect 1024 n o inb) h1).view.set]{fullShare} (A m k c)))
      ⊢ (rsPay m (prt k c) k : sProp 𝕄) := by
  unfold rsPay
  rw [prt_prt k hk, write_slice comM (prt k c) hn ho' fullShare f (landed m k (prt k c)) fun x => by
      show landed m k (prt k c) ((rowRect 992 n o' inb').emb x) = A m k c ((rowRect 1024 n o inb).emb x)
      rw [landed_apply (inb := inb) m (prt k c) hk hn ho ho' x, prt_prt k hk],
    ← rowPts_slice accM c hn ho fullShare (A m k c)]
  iintro ⟨H1, H2⟩
  isplitl [H1]; · iexact H1
  iexists (A m k c); iexact H2

/-- Step `k` of the reduction: the partner's rows of the accumulator go to the partner's receive region. -/
theorem wp_rsSend {k : ℕ} (hk : k < 5) (hn : n = sz k) (hdv : dv = prt k c) (ho : o = ![lo (k + 1) (prt k c), 0]) (ho' : o' = ![st k, 0])
    (hS : sS = sndS k) (hR : sR = rcvS k)
    {hsc : ((comM.slice (rowRect 992 n o' inb') h2 : Memref sig (Dev.tc dv : Thread nD τ).2.kind .vmem (⟨2, ![n, 512]⟩ : Shape) .bf16)).view.ref.isScScratch = false}
    {hsrc : (accM.slice (rowRect 1024 n o inb) h1).view.WordExact} {hdst : (comM.slice (rowRect 992 n o' inb') h2).view.WordExact}
    {hsem : DmaTarget.Typed .vmem (.dma sR) (.remote (Dev.tc dv : Thread nD τ) (comM.slice (rowRect 992 n o' inb') h2) (.dma sS) hsc)}
    {α : Type} {Q : α → sProp 𝕄} {kk : PUnit → Prog (TpuEff nD τ sig (Elt F) Λ₀ .tc) α} :
    iprop(env m K ∗ stepRes (F := F) c k ∗ owesS c (5 + k) ∗ accPts c (lo (k + 1) (prt k c)) (sz k) fullShare (A m k c) ∗ barPay c k)
      ⊢ iprop(((stepSent c k ∗ owesS c (6 + k)) -∗ WP c (kk ⟨⟩) Q)
        -∗ WP c (.op (.enqueueDma (accM.slice (rowRect 1024 n o inb) h1) (.remote (Dev.tc dv : Thread nD τ) (comM.slice (rowRect 992 n o' inb') h2) (.dma sS) hsc) (.dma sR) hsrc hdst hsem) kk) Q) := by
  subst hdv hS hR
  have hO : O c (5 + k) (20 - (5 + k)) = O c (5 + k + 1) (20 - (5 + k + 1)) + tallyAt ((prt k c : Thread nD τ), .dma (rcvS k)) () (crN (sz (lvl k))) := by
    rw [O_pay c (show 5 + k < 20 by omega), (due_rcv c (show k < 10 by omega)).1, (due_rcv c (show k < 10 by omega)).2, lvl_lo hk]
  unfold owesS stepRes stepSent barPay
  iintro ⟨#He, ⟨HtS, HtR, Hcr, Ha, Hr⟩, ⟨%W, HO⟩, Hacc, ⟨%f, Hcom⟩⟩ Hk
  iapply (Rounds.wp_send_landing_pointsTo 𝒱₀ ER (exRd m) (c : Thread nD τ) none (κ₁ := K (c, jS k)) (κ₂ := K (prt k c, jR k))
      (r₁ := 0) (r₂ := 0) (d₁ := (0 : Fin 5)) (d₂ := (0 : Fin 5)) (fs := A m k c) (fd := f) (q := fullShare)
      (by rw [duties_snd m c k (by omega)]; exact Finset.mem_singleton_self _) (by rw [duties_rcv m (prt k c) k (by omega)]; exact Finset.mem_singleton_self _)
      () () (crN (sz (lvl k))) (by rw [lvl_lo hk, ← hn]; rfl) (amount_snd m c k (by omega) 0) (amount_rcv m (prt k c) k (by omega) 0)
      (O c (5 + k + 1) (20 - (5 + k + 1))) hO (W := W)
      (by rw [payload_rsSnd m c k hk]) (by rw [payload_rsRcv m (prt k c) k hk]; exact rs_pay m c hk hn ho ho' f)) $$ [Hacc Hcom HO HtS HtR]
  · isplitr; · iapply (env_cell m K c (jS k) _ (csem_jS k (by omega))); iexact He
    isplitr; · iapply (env_cell m K (prt k c) (jR k) _ (csem_jR k (by omega))); iexact He
    isplitl [Hacc]; · iapply (Entails.of_eq (rowPts_slice accM c hn ho fullShare (A m k c))); iexact Hacc
    isplitl [Hcom]; · iapply (Entails.of_eq (rowPts_slice comM (prt k c) hn ho' fullShare f)); iexact Hcom
    isplitl [HO]; · iexact HO
    isplitl [HtS]; · iexact HtS
    isplitr; · iapply (env_reached m K c (jS k) _ (csem_jS k (by omega))); iexact He
    isplitl [HtR]; · rw [lvl_lo hk]; iexact HtR
    iapply (env_reached m K (prt k c) (jR k) _ (csem_jR k (by omega))); iexact He
  iintro ⟨Hcs, HO⟩
  iapply Hk
  isplitr [HO]
  · isplitl [Hcs]; · iexact Hcs
    isplitl [Hcr]; · iexact Hcr
    isplitl [Ha]; · iexact Ha
    iexact Hr
  iexists W; rw [show 6 + k = 5 + k + 1 by omega]; iexact HO

end RS

section AG
variable {inb : ∀ d, o d + (⟨2, ![n, 512]⟩ : Shape).size d ≤ (⟨2, ![1024, 512]⟩ : Shape).size d}
  {h1 h2 : ∀ a, (rowRect 1024 n o inb).stride a = 1}

/-- Step `t ≥ 5`, level `l`, of the spreading back: this device's reduced rows go to the same rows of the partner's accumulator. -/
theorem wp_agSend {t l : ℕ} (h5 : 5 ≤ t) (ht : t < 10) (hl : lvl t = l) (hn : n = sz l) (hdv : dv = prt l c) (ho : o = ![lo (l + 1) c, 0])
    (hS : sS = sndS t) (hR : sR = rcvS t)
    {hsc : ((accM.slice (rowRect 1024 n o inb) h2 : Memref sig (Dev.tc dv : Thread nD τ).2.kind .vmem (⟨2, ![n, 512]⟩ : Shape) .bf16)).view.ref.isScScratch = false}
    {hsrc : (accM.slice (rowRect 1024 n o inb) h1).view.WordExact} {hdst : (accM.slice (rowRect 1024 n o inb) h2).view.WordExact}
    {hsem : DmaTarget.Typed .vmem (.dma sR) (.remote (Dev.tc dv : Thread nD τ) (accM.slice (rowRect 1024 n o inb) h2) (.dma sS) hsc)}
    {α : Type} {Q : α → sProp 𝕄} {kk : PUnit → Prog (TpuEff nD τ sig (Elt F) Λ₀ .tc) α} :
    iprop(env m K ∗ stepRes (F := F) c t ∗ owesS c (5 + t) ∗ accPts c (lo (l + 1) c) (sz l) fullShare.left (FIN m) ∗ (∃ f, accPts (prt l c) (lo (l + 1) c) (sz l) fullShare f))
      ⊢ iprop(((stepSent c t ∗ owesS c (6 + t)) -∗ WP c (kk ⟨⟩) Q)
        -∗ WP c (.op (.enqueueDma (accM.slice (rowRect 1024 n o inb) h1) (.remote (Dev.tc dv : Thread nD τ) (accM.slice (rowRect 1024 n o inb) h2) (.dma sS) hsc) (.dma sR) hsrc hdst hsem) kk) Q) := by
  subst hdv hS hR
  have hl5 : l < 5 := by rw [← hl, lvl, if_neg (by omega)]; omega
  have hO : O c (5 + t) (20 - (5 + t)) = O c (5 + t + 1) (20 - (5 + t + 1)) + tallyAt ((prt l c : Thread nD τ), .dma (rcvS t)) () (crN (sz (lvl t))) := by
    rw [O_pay c (show 5 + t < 20 by omega), (due_rcv c ht).1, (due_rcv c ht).2, hl]
  unfold owesS stepRes stepSent
  iintro ⟨#He, ⟨HtS, HtR, Hcr, Ha, Hr⟩, ⟨%W, HO⟩, Hacc, ⟨%f, Hdst⟩⟩ Hk
  iapply (Rounds.wp_send_pointsTo 𝒱₀ ER (exRd m) (c : Thread nD τ) none (κ₁ := K (c, jS t)) (κ₂ := K (prt l c, jR t))
      (r₁ := 0) (r₂ := 0) (d₁ := (0 : Fin 5)) (d₂ := (0 : Fin 5)) (fs := FIN m) (fd := f) (q := fullShare.left)
      (by rw [duties_snd m c t ht]; exact Finset.mem_singleton_self _) (by rw [duties_rcv m (prt l c) t ht]; exact Finset.mem_singleton_self _)
      () () (crN (sz (lvl t))) (by rw [hl, ← hn]; rfl) (amount_snd m c t ht 0) (amount_rcv m (prt l c) t ht 0)
      (O c (5 + t + 1) (20 - (5 + t + 1))) hO (W := W)
      (by rw [payload_agSnd m c t h5 ht, hl]; exact Entails.of_eq (rowPts_slice accM c hn ho fullShare.left (FIN m)).symm)
      (by
        rw [payload_agRcv m (prt l c) t h5 ht, hl]
        unfold agPay
        rw [prt_prt l hl5]
        exact Entails.of_eq (write_slice accM (prt l c) hn ho fullShare f (FIN m) fun x => rfl))) $$ [Hacc Hdst HO HtS HtR]
  · isplitr; · iapply (env_cell m K c (jS t) _ (csem_jS t ht)); iexact He
    isplitr; · iapply (env_cell m K (prt l c) (jR t) _ (csem_jR t ht)); iexact He
    isplitl [Hacc]; · iapply (Entails.of_eq (rowPts_slice accM c hn ho fullShare.left (FIN m))); iexact Hacc
    isplitl [Hdst]; · iapply (Entails.of_eq (rowPts_slice accM (prt l c) hn ho fullShare f)); iexact Hdst
    isplitl [HO]; · iexact HO
    isplitl [HtS]; · iexact HtS
    isplitr; · iapply (env_reached m K c (jS t) _ (csem_jS t ht)); iexact He
    isplitl [HtR]; · rw [hl]; iexact HtR
    iapply (env_reached m K (prt l c) (jR t) _ (csem_jR t ht)); iexact He
  iintro ⟨Hcs, HO⟩
  iapply Hk
  isplitr [HO]
  · isplitl [Hcs]; · iexact Hcs
    isplitl [Hcr]; · iexact Hcr
    isplitl [Ha]; · iexact Ha
    iexact Hr
  iexists W; rw [show 6 + t = 5 + t + 1 by omega]; iexact HO

end AG

end Sends

end Cert.MoeProof

end
-- ==== Proof.Moves.lean ====
/-
  The steps of the exchange put together on one device: an addition of what landed, an addition followed by the next
  send, the sends and the waits of the gathering half, and the update of a half of the result.
-/
module

public import proofs.«01_k».proof.Proof.Steps

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 22 → ℕ) (c : Dev nD)

section Add
variable {n : ℕ} {o o' : Fin 2 → ℕ}
  {inb : ∀ d, o d + (⟨2, ![n, 512]⟩ : Shape).size d ≤ (⟨2, ![1024, 512]⟩ : Shape).size d}
  {inb' : ∀ d, o' d + (⟨2, ![n, 512]⟩ : Shape).size d ≤ (⟨2, ![992, 512]⟩ : Shape).size d}

/-- Adding what landed at level `k` onto the rows kept at level `k`. -/
theorem wp_addStep {k : ℕ} (hk : k < 5) (hn : n = sz k) (ho : o = ![lo (k + 1) c, 0]) (ho' : o' = ![st k, 0])
    {pay : Vec F (⟨2, ![n, 512]⟩ : Shape) .bf16 → Vec F (⟨2, ![n, 512]⟩ : Shape) .bf16 → Vec F (⟨2, ![n, 512]⟩ : Shape) .bf16}
    (hp : ∀ v w, pay v w = addf v w)
    {hl1 hl3 : accM.view.LoadsAt (rowRect 1024 n o inb).toLoadRect} {hl2 : comM.view.LoadsAt (rowRect 992 n o' inb').toLoadRect}
    {hx : (accM.access (rowRect 1024 n o inb)).Stores Finset.univ}
    {hm : (Finset.univ : Finset (rowRect 1024 n o inb).shape.Idx) = Finset.univ ∨ ∀ a, (rowRect 1024 n o inb).stride a = 1}
    {α : Type} {Q : α → sProp 𝕄} {kk : PUnit → Prog (TpuEff nD τ sig (Elt F) Λ₀ .tc) α} :
    iprop(accPts c (lo (k + 1) c) (sz k) fullShare (A m k c) ∗ rsPay m c k)
      ⊢ iprop(((accPts c (lo (k + 1) c) (sz k) fullShare (A m (k + 1) c) ∗ rsPay m c k) -∗ WP c (kk ⟨⟩) Q)
        -∗ WP c (.op (.load accM (rowRect 1024 n o inb).toLoadRect hl1) fun v =>
            .op (.load comM (rowRect 992 n o' inb').toLoadRect hl2) fun w =>
            .op (.load accM (rowRect 1024 n o inb).toLoadRect hl3) fun _ =>
            .op (.store accM (rowRect 1024 n o inb) (pay v w) Finset.univ hx hm) kk) Q) := by
  unfold rsPay
  iintro ⟨Ha, Hc, Hr⟩ Hk
  iapply (wp_rowLd accM c hn ho) $$ [Ha]; · iexact Ha
  iintro Ha
  iapply (wp_rowLd comM c hn ho') $$ [Hc]; · iexact Hc
  iintro Hc
  iapply (wp_rowLd accM c hn ho) $$ [Ha]; · iexact Ha
  iintro Ha
  iapply (wp_rowSt accM c hn ho (A m (k + 1) c) (w := pay _ _) (fun x => by
    rw [hp]
    exact congrArg (FloatOps.addf (A m k c ((rowRect 1024 n o inb).emb x))) (landed_apply (inb := inb) m c hk hn ho ho' x).symm)) $$ [Ha]; · iexact Ha
  iintro Ha
  iapply Hk
  isplitl [Ha]; · iexact Ha
  isplitl [Hc]; · iexact Hc
  iexact Hr

end Add

section Send
variable {n n' : ℕ} {o o' p p' : Fin 2 → ℕ} {dv : Dev nD} {sS sR sm : DmaSem sig}
  {inb : ∀ d, o d + (⟨2, ![n, 512]⟩ : Shape).size d ≤ (⟨2, ![1024, 512]⟩ : Shape).size d}
  {inb' : ∀ d, o' d + (⟨2, ![n, 512]⟩ : Shape).size d ≤ (⟨2, ![992, 512]⟩ : Shape).size d}
  {pnb : ∀ d, p d + (⟨2, ![n', 512]⟩ : Shape).size d ≤ (⟨2, ![1024, 512]⟩ : Shape).size d}
  {pnb' : ∀ d, p' d + (⟨2, ![n', 512]⟩ : Shape).size d ≤ (⟨2, ![992, 512]⟩ : Shape).size d}
  {h1 : ∀ a, (rowRect 1024 n' p pnb).stride a = 1} {h2 : ∀ a, (rowRect 992 n' p' pnb').stride a = 1}

/-- The rows kept at level `k` are those kept at the next level and those sent there. -/
theorem acc_split {k : ℕ} (hk : k < 4) (f : Vec F S1024x512 .bf16) :
    (accPts c (lo (k + 1) c) (sz k) fullShare f : sProp 𝕄)
      ⊣⊢ iprop(accPts c (lo (k + 2) c) (sz (k + 1)) fullShare f ∗ accPts c (lo (k + 2) (prt (k + 1) c)) (sz (k + 1)) fullShare f) := by
  rw [sz_succ k hk]
  exact rowPts_union accM c (rws_split (k + 1) (by omega) c) (rws_split_disjoint (k + 1) (by omega) c) _ f

/-- Receiving at level `k`, adding what landed, and sending one half of the sum on at the next level. -/
theorem wp_addSend {k : ℕ} (hk : k < 4) (hn : n = sz k) (ho : o = ![lo (k + 1) c, 0]) (ho' : o' = ![st k, 0])
    (hn' : n' = sz (k + 1)) (hp' : p = ![lo (k + 2) (prt (k + 1) c), 0]) (hq' : p' = ![st (k + 1), 0])
    (hdv : dv = prt (k + 1) c) (hS : sS = sndS (k + 1)) (hR : sR = rcvS (k + 1)) (hs : sm = rcvS k)
    {pay : Vec F (⟨2, ![n, 512]⟩ : Shape) .bf16 → Vec F (⟨2, ![n, 512]⟩ : Shape) .bf16 → Vec F (⟨2, ![n, 512]⟩ : Shape) .bf16}
    (hp : ∀ v w, pay v w = addf v w)
    {hl1 hl3 : accM.view.LoadsAt (rowRect 1024 n o inb).toLoadRect} {hl2 : comM.view.LoadsAt (rowRect 992 n o' inb').toLoadRect}
    {hx : (accM.access (rowRect 1024 n o inb)).Stores Finset.univ}
    {hm : (Finset.univ : Finset (rowRect 1024 n o inb).shape.Idx) = Finset.univ ∨ ∀ a, (rowRect 1024 n o inb).stride a = 1}
    {hsc : ((comM.slice (rowRect 992 n' p' pnb') h2 : Memref sig (Dev.tc dv : Thread nD τ).2.kind .vmem (⟨2, ![n', 512]⟩ : Shape) .bf16)).view.ref.isScScratch = false}
    {hsrc : (accM.slice (rowRect 1024 n' p pnb) h1).view.WordExact} {hdst : (comM.slice (rowRect 992 n' p' pnb') h2).view.WordExact}
    {hsem : DmaTarget.Typed .vmem (.dma sR) (.remote (Dev.tc dv : Thread nD τ) (comM.slice (rowRect 992 n' p' pnb') h2) (.dma sS) hsc)}
    {sp sp' : Space} {z z' : Shape} {e e' : EltTy} {src : Memref sig .tc sp' z' e'} {dst : Memref sig .tc sp z e}
    {hws : src.view.WordExact} {hwd : dst.view.WordExact} (hN : dst.view.dmaCredit = crN (sz k))
    {α : Type} {Q : α → sProp 𝕄} {kk : PUnit → Prog (TpuEff nD τ sig (Elt F) Λ₀ .tc) α} :
    iprop(env m K ∗ stepLeft c k ∗ owesS (F := F) c (6 + k) ∗ accPts c (lo (k + 1) c) (sz k) fullShare (A m k c) ∗ stepRes c (k + 1) ∗ barPay c (k + 1))
      ⊢ iprop(((stepDone c k ∗ rsPay m c k ∗ stepSent c (k + 1) ∗ owesS c (6 + (k + 1)) ∗ accPts c (lo (k + 2) c) (sz (k + 1)) fullShare (A m (k + 1) c)) -∗ WP c (kk ⟨⟩) Q)
        -∗ WP c (.op (.waitDma2 sm src dst hws hwd) fun _ =>
            .op (.load accM (rowRect 1024 n o inb).toLoadRect hl1) fun v =>
            .op (.load comM (rowRect 992 n o' inb').toLoadRect hl2) fun w =>
            .op (.load accM (rowRect 1024 n o inb).toLoadRect hl3) fun _ =>
            .op (.store accM (rowRect 1024 n o inb) (pay v w) Finset.univ hx hm) fun _ =>
            .op (.enqueueDma (accM.slice (rowRect 1024 n' p pnb) h1) (.remote (Dev.tc dv : Thread nD τ) (comM.slice (rowRect 992 n' p' pnb') h2) (.dma sS) hsc) (.dma sR) hsrc hdst hsem) kk) Q) := by
  have hl : lvl k = k := lvl_lo (by omega)
  have hpay : (exRd (F := F) m).payload (rcvC k c) 0 0 = rsPay m c k := payload_rsRcv m c k (by omega) 0
  iintro ⟨#He, Hst, HO, Ha, Hres, Hbar⟩ Hk
  iapply (wp_rcvWait m K c (t := k) (by omega) hs (by rw [hl, hN])) $$ [Hst HO]
  · isplitr; · iexact He
    isplitl [Hst]; · iexact Hst
    iexact HO
  iintro ⟨Hd, HO, Hp⟩
  ihave Hp := (Entails.of_eq hpay) $$ Hp
  iapply (wp_addStep m c (k := k) (by omega) hn ho ho' hp) $$ [Ha Hp]
  · isplitl [Ha]; · iexact Ha
    iexact Hp
  iintro ⟨Ha, Hp⟩
  ihave Hs := (acc_split c hk (A m (k + 1) c)).1 $$ Ha
  icases Hs with ⟨Hkeep, Hgive⟩
  iapply (wp_rsSend m K c (k := k + 1) (by omega) hn' hdv hp' hq' hS hR) $$ [Hres HO Hgive Hbar]
  · isplitr; · iexact He
    isplitl [Hres]; · iexact Hres
    isplitl [HO]; · iapply (Entails.of_eq (congrArg (owesS (F := F) c) (show 6 + k = 5 + (k + 1) by omega))); iexact HO
    isplitl [Hgive]; · iexact Hgive
    iexact Hbar
  iintro ⟨Hst, HO⟩
  iapply Hk
  isplitl [Hd]; · iexact Hd
  isplitl [Hp]; · iexact Hp
  isplitl [Hst]; · iexact Hst
  isplitl [HO]; · iexact HO
  iexact Hkeep

end Send

section Gather
variable {n : ℕ} {o : Fin 2 → ℕ} {dv : Dev nD} {sS sR sm : DmaSem sig}
  {inb : ∀ d, o d + (⟨2, ![n, 512]⟩ : Shape).size d ≤ (⟨2, ![1024, 512]⟩ : Shape).size d}
  {h1 h2 : ∀ a, (rowRect 1024 n o inb).stride a = 1}

/-- Sending the finished rows at step `t`, keeping half a share of them. -/
theorem wp_agSendF {t l : ℕ} (h5 : 5 ≤ t) (ht : t < 10) (hl : lvl t = l) (hn : n = sz l) (hdv : dv = prt l c) (ho : o = ![lo (l + 1) c, 0])
    (hS : sS = sndS t) (hR : sR = rcvS t)
    {hsc : ((accM.slice (rowRect 1024 n o inb) h2 : Memref sig (Dev.tc dv : Thread nD τ).2.kind .vmem (⟨2, ![n, 512]⟩ : Shape) .bf16)).view.ref.isScScratch = false}
    {hsrc : (accM.slice (rowRect 1024 n o inb) h1).view.WordExact} {hdst : (accM.slice (rowRect 1024 n o inb) h2).view.WordExact}
    {hsem : DmaTarget.Typed .vmem (.dma sR) (.remote (Dev.tc dv : Thread nD τ) (accM.slice (rowRect 1024 n o inb) h2) (.dma sS) hsc)}
    {α : Type} {Q : α → sProp 𝕄} {kk : PUnit → Prog (TpuEff nD τ sig (Elt F) Λ₀ .tc) α} :
    iprop(env m K ∗ stepRes (F := F) c t ∗ owesS c (5 + t) ∗ accPts c (lo (l + 1) c) (sz l) fullShare (FIN m) ∗ (∃ f, accPts (prt l c) (lo (l + 1) c) (sz l) fullShare f))
      ⊢ iprop(((stepSent c t ∗ owesS c (6 + t) ∗ accPts c (lo (l + 1) c) (sz l) fullShare.right (FIN m)) -∗ WP c (kk ⟨⟩) Q)
        -∗ WP c (.op (.enqueueDma (accM.slice (rowRect 1024 n o inb) h1) (.remote (Dev.tc dv : Thread nD τ) (accM.slice (rowRect 1024 n o inb) h2) (.dma sS) hsc) (.dma sR) hsrc hdst hsem) kk) Q) := by
  iintro ⟨#He, Hres, HO, Ha, Hx⟩ Hk
  ihave Hs := (rowPts_share accM c (lo (l + 1) c) (sz l) (FIN m)).1 $$ Ha
  icases Hs with ⟨Hl, Hr⟩
  iapply (wp_agSend m K c h5 ht hl hn hdv ho hS hR) $$ [Hres HO Hl Hx]
  · isplitr; · iexact He
    isplitl [Hres]; · iexact Hres
    isplitl [HO]; · iexact HO
    isplitl [Hl]; · iexact Hl
    iexact Hx
  iintro ⟨Hst, HO⟩
  iapply Hk
  isplitl [Hst]; · iexact Hst
  isplitl [HO]; · iexact HO
  iexact Hr

variable {sp sp' : Space} {z z' : Shape} {e e' : EltTy} {src : Memref sig .tc sp' z' e'} {dst : Memref sig .tc sp z e}
  {hws : src.view.WordExact} {hwd : dst.view.WordExact}

/-- The send's wait of the gathering half: the rows are whole again. -/
theorem wp_agSndWait {t l : ℕ} (h5 : 5 ≤ t) (ht : t < 10) (hl : lvl t = l) (hs : sm = sndS t) (hN : dst.view.dmaCredit = crN (sz l))
    {α : Type} {Q : α → sProp 𝕄} {kk : PUnit → Prog (TpuEff nD τ sig (Elt F) Λ₀ .tc) α} :
    iprop(env m K ∗ stepSent c t ∗ owesS (F := F) c (6 + t) ∗ accPts c (lo (l + 1) c) (sz l) fullShare.right (FIN m))
      ⊢ iprop(((stepLeft c t ∗ owesS c (6 + t) ∗ accPts c (lo (l + 1) c) (sz l) fullShare (FIN m)) -∗ WP c (kk ⟨⟩) Q)
        -∗ WP c (.op (.waitDma2 sm src dst hws hwd) kk) Q) := by
  have hpay : (exRd (F := F) m).payload (sndC t c) 0 0 = agSnd m c l := by rw [← hl]; exact payload_agSnd m c t h5 ht 0
  unfold agSnd at hpay
  iintro ⟨#He, Hst, HO, Hr⟩ Hk
  iapply (wp_sndWait m K c ht hs (by rw [hl, hN])) $$ [Hst HO]
  · isplitr; · iexact He
    isplitl [Hst]; · iexact Hst
    iexact HO
  iintro ⟨Hst, HO, Hp⟩
  ihave Hp := (Entails.of_eq hpay) $$ Hp
  iapply Hk
  isplitl [Hst]; · iexact Hst
  isplitl [HO]; · iexact HO
  iapply (rowPts_share accM c (lo (l + 1) c) (sz l) (FIN m)).2
  isplitl [Hp]; · iexact Hp
  iexact Hr

/-- The receive's wait of the gathering half: the partner's finished rows. -/
theorem wp_agRcvWait {t l : ℕ} (h5 : 5 ≤ t) (ht : t < 10) (hl : lvl t = l) (hs : sm = rcvS t) (hN : dst.view.dmaCredit = crN (sz l))
    {α : Type} {Q : α → sProp 𝕄} {kk : PUnit → Prog (TpuEff nD τ sig (Elt F) Λ₀ .tc) α} :
    iprop(env m K ∗ stepLeft c t ∗ owesS (F := F) c (6 + t))
      ⊢ iprop(((stepDone c t ∗ owesS c (6 + t) ∗ accPts c (lo (l + 1) (prt l c)) (sz l) fullShare (FIN m)) -∗ WP c (kk ⟨⟩) Q)
        -∗ WP c (.op (.waitDma2 sm src dst hws hwd) kk) Q) := by
  have hpay : (exRd (F := F) m).payload (rcvC t c) 0 0 = agPay m c l := by rw [← hl]; exact payload_agRcv m c t h5 ht 0
  unfold agPay at hpay
  iintro ⟨#He, Hst, HO⟩ Hk
  iapply (wp_rcvWait m K c ht hs (by rw [hl, hN])) $$ [Hst HO]
  · isplitr; · iexact He
    isplitl [Hst]; · iexact Hst
    iexact HO
  iintro ⟨Hst, HO, Hp⟩
  ihave Hp := (Entails.of_eq hpay) $$ Hp
  iapply Hk
  isplitl [Hst]; · iexact Hst
  isplitl [HO]; · iexact HO
  iexact Hp

/-- The receive's wait joined with the rows already there: the finished rows of the level before. -/
theorem wp_agRcvJoin {t l : ℕ} (h5 : 5 ≤ t) (ht : t < 9) (hl : lvl t = l + 1) (hl4 : l < 4) (hs : sm = rcvS t) (hN : dst.view.dmaCredit = crN (sz (l + 1)))
    {α : Type} {Q : α → sProp 𝕄} {kk : PUnit → Prog (TpuEff nD τ sig (Elt F) Λ₀ .tc) α} :
    iprop(env m K ∗ stepLeft c t ∗ owesS (F := F) c (6 + t) ∗ accPts c (lo (l + 2) c) (sz (l + 1)) fullShare (FIN m))
      ⊢ iprop(((stepDone c t ∗ owesS c (5 + (t + 1)) ∗ accPts c (lo (l + 1) c) (sz l) fullShare (FIN m)) -∗ WP c (kk ⟨⟩) Q)
        -∗ WP c (.op (.waitDma2 sm src dst hws hwd) kk) Q) := by
  iintro ⟨#He, Hst, HO, Ha⟩ Hk
  iapply (wp_agRcvWait m K c h5 (by omega) hl hs hN) $$ [Hst HO]
  · isplitr; · iexact He
    isplitl [Hst]; · iexact Hst
    iexact HO
  iintro ⟨Hst, HO, Hp⟩
  iapply Hk
  isplitl [Hst]; · iexact Hst
  isplitl [HO]; · iapply (Entails.of_eq (congrArg (owesS (F := F) c) (show 6 + t = 5 + (t + 1) by omega))); iexact HO
  iapply (acc_split c hl4 (FIN m)).2
  isplitl [Ha]; · iexact Ha
  iexact Hp

end Gather

section Result
variable {n a : ℕ} {o : Fin 2 → ℕ}
  {inb : ∀ d, o d + (⟨2, ![n, 512]⟩ : Shape).size d ≤ (⟨2, ![1024, 512]⟩ : Shape).size d}

/-- Adding the gathered rows onto a half of the result. -/
theorem wp_outStep (ho : o = ![a, 0]) {q : PosShare TreeShare} {hlt : FTy.bf16.bits < FTy.f32.bits}
    {pay : Vec F (⟨2, ![n, 512]⟩ : Shape) .f32 → Vec F (⟨2, ![n, 512]⟩ : Shape) .bf16 → Vec F (⟨2, ![n, 512]⟩ : Shape) .f32}
    (hp : ∀ v w, pay v w = addf v (extf .f32 w hlt))
    {hl1 hl3 : outM.view.LoadsAt (rowRect 1024 n o inb).toLoadRect} {hl2 : accM.view.LoadsAt (rowRect 1024 n o inb).toLoadRect}
    {hx : (outM.access (rowRect 1024 n o inb)).Stores Finset.univ}
    {hm : (Finset.univ : Finset (rowRect 1024 n o inb).shape.Idx) = Finset.univ ∨ ∀ a, (rowRect 1024 n o inb).stride a = 1}
    {α : Type} {Q : α → sProp 𝕄} {kk : PUnit → Prog (TpuEff nD τ sig (Elt F) Λ₀ .tc) α} :
    iprop(outPts c a n (k0_pay14 (xV m c) (shV m c)) ∗ accPts c a n q (FIN m))
      ⊢ iprop(((outPts c a n (OUT m c) ∗ accPts c a n q (FIN m)) -∗ WP c (kk ⟨⟩) Q)
        -∗ WP c (.op (.load outM (rowRect 1024 n o inb).toLoadRect hl1) fun v =>
            .op (.load accM (rowRect 1024 n o inb).toLoadRect hl2) fun w =>
            .op (.load outM (rowRect 1024 n o inb).toLoadRect hl3) fun _ =>
            .op (.store outM (rowRect 1024 n o inb) (pay v w) Finset.univ hx hm) kk) Q) := by
  iintro ⟨Ho, Ha⟩ Hk
  iapply (wp_rowLd outM c rfl ho) $$ [Ho]; · iexact Ho
  iintro Ho
  iapply (wp_rowLd accM c rfl ho) $$ [Ha]; · iexact Ha
  iintro Ha
  iapply (wp_rowLd outM c rfl ho) $$ [Ho]; · iexact Ho
  iintro Ho
  iapply (wp_rowSt outM c rfl ho (OUT m c) (w := pay _ _) (fun x => by rw [hp]; rfl)) $$ [Ho]; · iexact Ho
  iintro Ho
  iapply Hk
  isplitl [Ho]; · iexact Ho
  iexact Ha

end Result

end Cert.MoeProof

end
-- ==== Proof.Parts.lean ====
/-
  What each piece of the kernel's body does on one device: the resources it takes and those it leaves.
-/
module

public import proofs.«01_k».proof.Proof.Moves

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 22 → ℕ) (c : Dev nD)

/-- The five input windows' blocks, each whole. -/
def insP : sProp 𝕄 :=
  iprop(((c : Thread nD τ).loc cc0_stg0_0 ↦{fullShare} xV m c) ∗ ((c : Thread nD τ).loc cc0_stg1_0 ↦{fullShare} wrV m c)
    ∗ ((c : Thread nD τ).loc cc0_stg2_0 ↦{fullShare} ixV m c) ∗ ((c : Thread nD τ).loc cc0_stg3_0 ↦{fullShare} exV m c)
    ∗ ((c : Thread nD τ).loc cc0_stg4_0 ↦{fullShare} shV m c))

/-- The barrier's semaphore as the kernel names it. -/
abbrev barA : Sems sig S_ := SemArray.scalar (sig.barrier 0 (by decide))
/-- A finished piece hands over a value with the property it was asked for. -/
theorem ret_of {α : Type} {Q : α → sProp 𝕄} {p : α → Prop} {a : α} (h : p a) :
    iprop(∀ r, ⌜p r⌝ -∗ Q r) ⊢ WP (F := F) c (.ret a) Q := by
  show _ ⊢ iprop(|={Set.univ}[frame]=> Q a)
  iintro H
  imodintro
  iapply H
  ipureintro
  exact h

/-- What each of the first pieces hands over. -/
def res6 (r : Σ' (_ : BitVec 32), Sems sig S_) : Prop := ∃ v, r = ⟨v, barA⟩
/-- What the seventh part hands on: the first half's tokens, indices and weights, and a zero sum. -/
def res7 (r : Σ' (_ : BitVec 32) (_ : BitVec 32) (_ : FVec F S512x256 .bf16) (_ : IVec S512x1 32) (_ : FVec F S512x1 .f32) (_ : FVec F S512x512 .f32), BitVec 32) : Prop :=
  ∃ a b, r = ⟨a, b, k0_pay1 (ldX1 m c), k0_pay2 (F := F) (ldI1 m c), k0_pay3 (ldX1 m c) (ldR m c) (ldI1 m c), k0_pay4, expW c 0#32⟩
/-- What the eighth hands on: the sum of the first three experts' parts. -/
def res8 (v238 : FVec F S512x256 .bf16) (v253 : IVec S512x1 32) (v260 : FVec F S512x1 .f32) (v261 : FVec F S512x512 .f32) (v263 : BitVec 32)
    (r : Σ' (_ : FVec F S512x512 .f32), BitVec 32) : Prop :=
  r = ⟨k0_pay5 (devW c) v238 v253 v260 v261 v263 (ldE0 m c) (ldE1 m c) (ldE2 m c), expW c 3#32⟩
/-- What the ninth hands on: the second half's tokens, softmax and indices. -/
def res9 (r : Σ' (_ : FVec F S512x256 .bf16) (_ : FVec F S512x128 .f32), IVec S512x1 32) : Prop :=
  r = ⟨k0_pay7 (ldX2 m c), k0_pay8 (ldX2 m c) (ldR m c), k0_pay9 (F := F) (ldI2 m c)⟩
/-- What the tenth hands on: its weights, the sum of two experts' parts and the third's product. -/
def res10 (v325 : FVec F S512x256 .bf16) (v337 : FVec F S512x128 .f32) (v340 : IVec S512x1 32)
    (r : Σ' (_ : FVec F S512x1 .f32) (_ : FVec F S512x512 .f32) (_ : BitVec 32), FVec F S512x512 .f32) : Prop :=
  r = ⟨k0_pay10 v337 v340, k0_pay11 (devW c) v325 v337 v340 (ldE0 m c) (ldE1 m c), expW c 2#32, k0_pay12 v325 (ldE2 m c)⟩

/-- A level's region of the receive buffer, whatever it holds. -/
abbrev comE (k : ℕ) : sProp 𝕄 := iprop(∃ f, comPts (F := F) c (st k) (sz k) f)
/-- The duty to arrive at a partner's barrier, -/
abbrev tokB (k : Fin 5) : sProp 𝕄 := dutyTok ER ((prt k.val c : Thread nD τ), .reg barS) 0 k
/-- and at its exit. -/
abbrev tokX (k : Fin 5) : sProp 𝕄 := dutyTok ER ((prt k.val c : Thread nD τ), .reg exS) 0 k

section Halves
variable {o : Fin 2 → ℕ} {inb : ∀ d, o d + (⟨2, ![512, 512]⟩ : Shape).size d ≤ (⟨2, ![1024, 512]⟩ : Shape).size d}

/-- The half a device keeps is its first bit's, and the half it gives away the other. -/
theorem lo_bit : ∀ c : Dev nD, lo 1 c = 512 * bit 0 c ∧ lo 1 (prt 0 c) = 512 * (1 - bit 0 c) ∧ bit 0 c < 2 := by decide +kernel

/-- On the half given away, the partial result is the first half computed. -/
theorem P_peer (ho : o = ![lo 1 (prt 0 c), 0]) (x : (⟨2, ![512, 512]⟩ : Shape).Idx) :
    accM.view.read (Elt F) (A m 0 c) ((rowRect 1024 512 o inb).emb x) = peerHalf m c x := by
  obtain ⟨h0, h1⟩ := emb_rows (inb := inb) ho x
  obtain ⟨-, hp, hb⟩ := lo_bit c
  have hx : (x 0).val < 512 := (x 0).isLt
  show P m c ((rowRect 1024 512 o inb).emb x) = peerHalf m c x
  unfold P
  rw [if_neg (by rw [h0, hp]; omega)]
  refine congrArg (peerHalf m c) ?_
  rw [eq_ix2 x]
  refine congr (congrArg ix2 (Fin.ext ?_)) h1
  show ((rowRect 1024 512 o inb).emb x 0).val % 512 = (x 0).val
  rw [h0, hp]
  omega

/-- On the half kept, the partial result is the second half computed. -/
theorem P_my (ho : o = ![lo 1 c, 0]) (x : (⟨2, ![512, 512]⟩ : Shape).Idx) :
    accM.view.read (Elt F) (A m 0 c) ((rowRect 1024 512 o inb).emb x) = myHalf m c x := by
  obtain ⟨h0, h1⟩ := emb_rows (inb := inb) ho x
  obtain ⟨hp, -, hb⟩ := lo_bit c
  have hx : (x 0).val < 512 := (x 0).isLt
  show P m c ((rowRect 1024 512 o inb).emb x) = myHalf m c x
  unfold P
  rw [if_pos (by rw [h0, hp]; omega)]
  refine congrArg (myHalf m c) ?_
  rw [eq_ix2 x]
  refine congr (congrArg ix2 (Fin.ext ?_)) h1
  show ((rowRect 1024 512 o inb).emb x 0).val % 512 = (x 0).val
  rw [h0, hp]
  omega

end Halves

/-- The first three barrier units. -/
theorem part6_wp (v19 v83 v99 v125 : BitVec 32) {Q} :
    iprop(env m K ∗ owesS (F := F) c 0 ∗ tokB c 0 ∗ tokB c 1 ∗ tokB c 2 ∗ comE c 0 ∗ comE c 1 ∗ comE c 2)
      ⊢ iprop((owesS (F := F) c 3 -∗ ∀ r, ⌜res6 r⌝ -∗ Q r)
        -∗ WP c (k0_part6 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v19 v83 v99 v125) Q) := by
  rw [k0_part6_eq_skeleton]
  unfold k0_part6_skel
  simp only [semSignalWord, semWaitWord, Prog.lift, Prog.bind_op, Prog.bind_ret, Prog.pure_eq_ret]
  iintro ⟨#He, HO, Ht0, Ht1, Ht2, Hc0, Hc1, Hc2⟩ Hk
  iapply (wp_barSig m K c (k := 0) (by decide) (dev1_eq c) rfl rfl) $$ [HO Ht0 Hc0]
  · isplitr; · iexact He
    isplitl [HO]; · iexact HO
    isplitl [Ht0]; · iexact Ht0
    iexact Hc0
  iintro HO
  iapply (wp_barSig m K c (k := 1) (by decide) (dev2_eq c) rfl rfl) $$ [HO Ht1 Hc1]
  · isplitr; · iexact He
    isplitl [HO]; · iexact HO
    isplitl [Ht1]; · iexact Ht1
    iexact Hc1
  iintro HO
  iapply (wp_barSig m K c (k := 2) (by decide) (dev3_eq c) rfl rfl) $$ [HO Ht2 Hc2]
  · isplitr; · iexact He
    isplitl [HO]; · iexact HO
    isplitl [Ht2]; · iexact Ht2
    iexact Hc2
  iintro HO
  iapply (ret_of c (p := res6) ⟨_, rfl⟩)
  iapply Hk
  iexact HO

/-- The last two barrier units, the barrier, and the first loads. -/
theorem part7_wp (v67 v168 v194 : BitVec 32) {Q} :
    iprop(env m K ∗ owesS (F := F) c 3 ∗ tokB c 3 ∗ tokB c 4 ∗ comE c 3 ∗ comE c 4
        ∗ cred (tallyAt ((c : Thread nD τ), .reg barS) () 5) ∗ atPos ER ((c : Thread nD τ), .reg barS) 0 ∅ 0 ∗ insP m c)
      ⊢ iprop(((owesS (F := F) c 5 ∗ atPos ER ((c : Thread nD τ), .reg barS) 1 ∅ 0 ∗ barPay c 0 ∗ barPay c 1 ∗ barPay c 2 ∗ barPay c 3 ∗ barPay c 4 ∗ insP m c)
          -∗ ∀ r, ⌜res7 m c r⌝ -∗ Q r)
        -∗ WP c (k0_part7 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c (devW c) v67 v168 v194 (barA)) Q) := by
  rw [k0_part7_eq_skeleton]
  unfold k0_part7_skel
  simp only [semSignalWord, semWaitWord, Prog.lift, Prog.bind_op, Prog.bind_ret, Prog.pure_eq_ret]
  unfold insP
  iintro ⟨#He, HO, Ht3, Ht4, Hc3, Hc4, Hcr, Hat, Hx, Hw, Hi, Hrest⟩ Hk
  iapply (wp_barSig m K c (k := 3) (by decide) (dev4_eq c) rfl rfl) $$ [HO Ht3 Hc3]
  · isplitr; · iexact He
    isplitl [HO]; · iexact HO
    isplitl [Ht3]; · iexact Ht3
    iexact Hc3
  iintro HO
  iapply (wp_barSig m K c (k := 4) (by decide) (dev5_eq c) rfl rfl) $$ [HO Ht4 Hc4]
  · isplitr; · iexact He
    isplitl [HO]; · iexact HO
    isplitl [Ht4]; · iexact Ht4
    iexact Hc4
  iintro HO
  iapply (wp_barWait m K c rfl rfl) $$ [HO Hcr Hat]
  · isplitr; · iexact He
    isplitl [Hcr]; · iexact Hcr
    isplitl [HO]; · iexact HO
    iexact Hat
  iintro ⟨HO, Hat, Hb⟩
  iapply (wp_load 𝒱₀ (c : Thread nD τ) none Set.univ (m := xM) (Finset.subset_univ _)) $$ [Hx]; · iexact Hx
  iintro Hx
  iapply (wp_load 𝒱₀ (c : Thread nD τ) none Set.univ (m := wrM) (Finset.subset_univ _)) $$ [Hw]; · iexact Hw
  iintro Hw
  iapply (wp_load 𝒱₀ (c : Thread nD τ) none Set.univ (m := ixM) (Finset.subset_univ _)) $$ [Hi]; · iexact Hi
  iintro Hi
  iapply (ret_of c (p := res7 m c) ⟨_, _, rfl⟩)
  iapply Hk
  isplitl [HO]; · iexact HO
  isplitl [Hat]; · iexact Hat
  icases Hb with ⟨Hb0, Hb1, Hb2, Hb3, Hb4⟩
  isplitl [Hb0]; · iexact Hb0
  isplitl [Hb1]; · iexact Hb1
  isplitl [Hb2]; · iexact Hb2
  isplitl [Hb3]; · iexact Hb3
  isplitl [Hb4]; · iexact Hb4
  isplitl [Hx]; · iexact Hx
  isplitl [Hw]; · iexact Hw
  isplitl [Hi]; · iexact Hi
  iexact Hrest

/-- The loads of the first three experts, for the half given away. -/
theorem part8_wp (v238 : FVec F S512x256 .bf16) (v253 : IVec S512x1 32) (v260 : FVec F S512x1 .f32) (v261 : FVec F S512x512 .f32) (v263 : BitVec 32) {Q} :
    insP m c
      ⊢ iprop((insP m c -∗ ∀ r, ⌜res8 m c v238 v253 v260 v261 v263 r⌝ -∗ Q r)
        -∗ WP c (k0_part8 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 (devW c) v238 v253 v260 v261 v263) Q) := by
  rw [k0_part8_eq_skeleton]
  unfold k0_part8_skel
  simp only [semSignalWord, semWaitWord, Prog.lift, Prog.bind_op, Prog.bind_ret, Prog.pure_eq_ret]
  unfold insP
  iintro ⟨Hx, Hw, Hi, Hex, Hsh⟩ Hk
  iapply (wp_load 𝒱₀ (c : Thread nD τ) none Set.univ (m := exM) (Finset.subset_univ _)) $$ [Hex]; · iexact Hex
  iintro Hex
  iapply (wp_load 𝒱₀ (c : Thread nD τ) none Set.univ (m := exM) (Finset.subset_univ _)) $$ [Hex]; · iexact Hex
  iintro Hex
  iapply (wp_load 𝒱₀ (c : Thread nD τ) none Set.univ (m := exM) (Finset.subset_univ _)) $$ [Hex]; · iexact Hex
  iintro Hex
  iapply (ret_of c (p := res8 m c v238 v253 v260 v261 v263) rfl)
  iapply Hk
  isplitl [Hx]; · iexact Hx
  isplitl [Hw]; · iexact Hw
  isplitl [Hi]; · iexact Hi
  isplitl [Hex]; · iexact Hex
  iexact Hsh

/-- The loads of the first three experts, for the half kept. -/
theorem part10_wp (v325 : FVec F S512x256 .bf16) (v337 : FVec F S512x128 .f32) (v340 : IVec S512x1 32) {Q} :
    insP m c
      ⊢ iprop((insP m c -∗ ∀ r, ⌜res10 m c v325 v337 v340 r⌝ -∗ Q r)
        -∗ WP c (k0_part10 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 (devW c) v325 v337 v340) Q) := by
  rw [k0_part10_eq_skeleton]
  unfold k0_part10_skel
  simp only [semSignalWord, semWaitWord, Prog.lift, Prog.bind_op, Prog.bind_ret, Prog.pure_eq_ret]
  unfold insP
  iintro ⟨Hx, Hw, Hi, Hex, Hsh⟩ Hk
  iapply (wp_load 𝒱₀ (c : Thread nD τ) none Set.univ (m := exM) (Finset.subset_univ _)) $$ [Hex]; · iexact Hex
  iintro Hex
  iapply (wp_load 𝒱₀ (c : Thread nD τ) none Set.univ (m := exM) (Finset.subset_univ _)) $$ [Hex]; · iexact Hex
  iintro Hex
  iapply (wp_load 𝒱₀ (c : Thread nD τ) none Set.univ (m := exM) (Finset.subset_univ _)) $$ [Hex]; · iexact Hex
  iintro Hex
  iapply (ret_of c (p := res10 m c v325 v337 v340) rfl)
  iapply Hk
  isplitl [Hx]; · iexact Hx
  isplitl [Hw]; · iexact Hw
  isplitl [Hi]; · iexact Hi
  isplitl [Hex]; · iexact Hex
  iexact Hsh

/-- The half given away is stored and sent; the loads for the half kept. -/
theorem part9_wp (v83 v233 v235 : BitVec 32) {Q} :
    iprop(env m K ∗ owesS (F := F) c 5 ∗ stepRes c 0 ∗ barPay c 0 ∗ (∃ f, accPts (F := F) c (lo 1 (prt 0 c)) (sz 0) fullShare f) ∗ insP m c)
      ⊢ iprop(((owesS (F := F) c 6 ∗ stepSent c 0 ∗ insP m c) -∗ ∀ r, ⌜res9 m c r⌝ -∗ Q r)
        -∗ WP c (k0_part9 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v83 v233 v235 (k0_pay1 (ldX1 m c)) (k0_pay2 (F := F) (ldI1 m c)) (k0_pay3 (ldX1 m c) (ldR m c) (ldI1 m c))
            (k0_pay5 (devW c) (k0_pay1 (ldX1 m c)) (k0_pay2 (F := F) (ldI1 m c)) (k0_pay3 (ldX1 m c) (ldR m c) (ldI1 m c)) k0_pay4 (expW c 0#32) (ldE0 m c) (ldE1 m c) (ldE2 m c))
            (expW c 3#32)) Q) := by
  rw [k0_part9_eq_skeleton]
  unfold k0_part9_skel
  simp only [semSignalWord, semWaitWord, Prog.lift, Prog.bind_op, Prog.bind_ret, Prog.pure_eq_ret]
  unfold insP
  iintro ⟨#He, HO, Hres, Hb, ⟨%f, Ha⟩, Hx, Hw, Hi, Hex, Hsh⟩ Hk
  iapply (wp_load 𝒱₀ (c : Thread nD τ) none Set.univ (m := exM) (Finset.subset_univ _)) $$ [Hex]; · iexact Hex
  iintro Hex
  iapply (wp_rowLd accM c rfl (off3_eq c)) $$ [Ha]; · iexact Ha
  iintro Ha
  iapply (wp_rowSt accM c rfl (off3_eq c) (A m 0 c) (w := peerHalf m c) (P_peer m c (off3_eq c))) $$ [Ha]; · iexact Ha
  iintro Ha
  iapply (wp_rsSend m K c (k := 0) (by decide) rfl (dev6_eq c) (off4_eq c) rfl rfl rfl) $$ [Hres HO Ha Hb]
  · isplitr; · iexact He
    isplitl [Hres]; · iexact Hres
    isplitl [HO]; · iexact HO
    isplitl [Ha]; · iexact Ha
    iexact Hb
  iintro ⟨Hst, HO⟩
  iapply (wp_load 𝒱₀ (c : Thread nD τ) none Set.univ (m := xM) (Finset.subset_univ _)) $$ [Hx]; · iexact Hx
  iintro Hx
  iapply (wp_load 𝒱₀ (c : Thread nD τ) none Set.univ (m := wrM) (Finset.subset_univ _)) $$ [Hw]; · iexact Hw
  iintro Hw
  iapply (wp_load 𝒱₀ (c : Thread nD τ) none Set.univ (m := ixM) (Finset.subset_univ _)) $$ [Hi]; · iexact Hi
  iintro Hi
  iapply (ret_of c (p := res9 m c) rfl)
  iapply Hk
  isplitl [HO]; · iexact HO
  isplitl [Hst]; · iexact Hst
  isplitl [Hx]; · iexact Hx
  isplitl [Hw]; · iexact Hw
  isplitl [Hi]; · iexact Hi
  isplitl [Hex]; · iexact Hex
  iexact Hsh

/-- The pieces the receives of the reduction hand over. -/
abbrev comL (k : ℕ) : sProp 𝕄 := comPts c (st k) (sz k) (landed m k c)
/-- The rows that the partner gave up, whatever they hold. -/
abbrev accX (k : ℕ) : sProp 𝕄 := iprop(∃ f, accPts (F := F) (prt k c) (lo (k + 1) c) (sz k) fullShare f)

/-- The sum of the first halving, -/
theorem pay15_add (v w : Vec F S512x512 .bf16) : k0_pay15 v w = addf v w := by unfold k0_pay15; simp only [shapeCast_self]
/-- of the second, -/
theorem pay16_add (v w : Vec F S256x512 .bf16) : k0_pay16 v w = addf v w := by unfold k0_pay16; simp only [shapeCast_self]
/-- of the third, -/
theorem pay17_add (v w : Vec F S128x512 .bf16) : k0_pay17 v w = addf v w := by unfold k0_pay17; simp only [shapeCast_self]
/-- of the fourth, -/
theorem pay18_add (v w : Vec F S64x512 .bf16) : k0_pay18 v w = addf v w := by unfold k0_pay18; simp only [shapeCast_self]
/-- and of the fifth. -/
theorem pay19_add (v w : Vec F S32x512 .bf16) : k0_pay19 v w = addf v w := by unfold k0_pay19; simp only [shapeCast_self]
/-- The sum of the result with the half of the rows that the device reduced, -/
theorem pay20_add (v : Vec F S512x512 .f32) (w : Vec F S512x512 .bf16) : k0_pay20 v w = addf v (extf .f32 w bitsLt_bf16_f32) := by
  unfold k0_pay20; simp only [shapeCast_self]
/-- and with the other half. -/
theorem pay21_add (v : Vec F S512x512 .f32) (w : Vec F S512x512 .bf16) : k0_pay21 v w = addf v (extf .f32 w bitsLt_bf16_f32) := by
  unfold k0_pay21; simp only [shapeCast_self]

/-- The rows a device ends the reduction with are finished. -/
theorem acc_fin : (accPts c (lo 5 c) (sz 4) fullShare (A m 5 c) : sProp 𝕄) = accPts c (lo 5 c) (sz 4) fullShare (FIN m) :=
  rowPts_congr accM c fun x hx => (FIN_own m c x hx).symm

/-- The zero offset. -/
theorem zero_off : (![0, 0] : Fin 2 → ℕ) = fun _ => 0 := by ext a; fin_cases a <;> rfl

/-- The shared product is stored over the whole result. -/
theorem shared_store (x : S1024x512.Idx) :
    outM.view.read (Elt F) (k0_pay14 (xV m c) (shV m c)) ((rowRect 1024 1024 ![0, 0] inb_S1024x512_S1024x512_0_0).emb x)
      = k0_pay14 (xM.view.readAt (Elt F) (Rect.unit (s := S1024x256) ![0, 0] S1024x256.size inb_S1024x256_S1024x256_0_0).toLoadRect (xV m c))
          (shM.view.readAt (Elt F) (Rect.unit (s := S256x512) ![0, 0] S256x512.size inb_S256x512_S256x512_0_0).toLoadRect (shV m c)) x := by
  have hX : xM.view.readAt (Elt F) (Rect.unit (s := S1024x256) ![0, 0] S1024x256.size inb_S1024x256_S1024x256_0_0).toLoadRect (xV m c) = xV m c :=
    Memref.readAt_unit_zero (Elt F) cc0_stg0_0 zero_off _ _
  have hS : shM.view.readAt (Elt F) (Rect.unit (s := S256x512) ![0, 0] S256x512.size inb_S256x512_S256x512_0_0).toLoadRect (shV m c) = shV m c :=
    Memref.readAt_unit_zero (Elt F) cc0_stg4_0 zero_off _ _
  rw [hX, hS]
  rw [emb_rows_eq (a := 0) rfl x (by have h : (x 0).val < 1024 := (x 0).isLt; omega)]
  refine congrArg (k0_pay14 (xV m c) (shV m c)) ?_
  conv_rhs => rw [eq_ix2 x]
  exact congrArg (ix2 · (x 1)) (Fin.ext (Nat.zero_add _))

/-- The half kept is stored, the shared product is stored into the result, and the first send is over. -/
theorem part11_wp (v233 : BitVec 32) {Q} :
    iprop(env m K ∗ owesS (F := F) c 6 ∗ stepSent c 0 ∗ (∃ f, accPts (F := F) c (lo 1 c) (sz 0) fullShare f) ∗ (∃ f, outPts (F := F) c (lo 0 c) (sz 0 + sz 0) f) ∗ insP m c)
      ⊢ iprop(((owesS (F := F) c 6 ∗ stepLeft c 0 ∗ accPts c (lo 1 c) (sz 0) fullShare (A m 0 c) ∗ outPts c (lo 0 c) (sz 0 + sz 0) (k0_pay14 (xV m c) (shV m c)) ∗ insP m c)
          -∗ ∀ r, ⌜True⌝ -∗ Q r)
        -∗ WP c (k0_part11 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c (devW c) v233 (k0_pay7 (ldX2 m c)) (k0_pay9 (F := F) (ldI2 m c)) (k0_pay10 (k0_pay8 (ldX2 m c) (ldR m c)) (k0_pay9 (F := F) (ldI2 m c)))
            (k0_pay11 (devW c) (k0_pay7 (ldX2 m c)) (k0_pay8 (ldX2 m c) (ldR m c)) (k0_pay9 (F := F) (ldI2 m c)) (ldE0 m c) (ldE1 m c))
            (expW c 2#32) (k0_pay12 (k0_pay7 (ldX2 m c)) (ldE2 m c))) Q) := by
  rw [k0_part11_eq_skeleton]
  unfold k0_part11_skel
  simp only [semSignalWord, semWaitWord, Prog.lift, Prog.bind_op, Prog.bind_ret, Prog.pure_eq_ret]
  unfold insP
  iintro ⟨#He, HO, Hst, ⟨%f, Ha⟩, ⟨%g, Ho⟩, Hx, Hw, Hi, Hex, Hsh⟩ Hk
  iapply (wp_load 𝒱₀ (c : Thread nD τ) none Set.univ (m := exM) (Finset.subset_univ _)) $$ [Hex]; · iexact Hex
  iintro Hex
  iapply (wp_rowLd accM c rfl (off7_eq c)) $$ [Ha]; · iexact Ha
  iintro Ha
  iapply (wp_rowSt accM c rfl (off7_eq c) (A m 0 c) (w := myHalf m c) (P_my m c (off7_eq c))) $$ [Ha]; · iexact Ha
  iintro Ha
  iapply (wp_load 𝒱₀ (c : Thread nD τ) none Set.univ (m := xM) (Finset.subset_univ _)) $$ [Hx]; · iexact Hx
  iintro Hx
  iapply (wp_load 𝒱₀ (c : Thread nD τ) none Set.univ (m := shM) (Finset.subset_univ _)) $$ [Hsh]; · iexact Hsh
  iintro Hsh
  iapply (wp_rowLd outM c (a := lo 0 c) (s := sz 0 + sz 0) rfl rfl) $$ [Ho]; · iexact Ho
  iintro Ho
  iapply (wp_rowSt outM c (a := lo 0 c) (s := sz 0 + sz 0) rfl rfl (k0_pay14 (xV m c) (shV m c)) (w := k0_pay14 _ _) (shared_store m c)) $$ [Ho]; · iexact Ho
  iintro Ho
  iapply (wp_sndWait m K c (t := 0) (by decide) rfl rfl) $$ [Hst HO]
  · isplitr; · iexact He
    isplitl [Hst]; · iexact Hst
    iexact HO
  iintro ⟨Hst, HO, _⟩
  iapply (ret_of c (p := fun _ => True) trivial)
  iapply Hk
  isplitl [HO]; · iexact HO
  isplitl [Hst]; · iexact Hst
  isplitl [Ha]; · iexact Ha
  isplitl [Ho]; · iexact Ho
  isplitl [Hx]; · iexact Hx
  isplitl [Hw]; · iexact Hw
  isplitl [Hi]; · iexact Hi
  isplitl [Hex]; · iexact Hex
  iexact Hsh

/-- The receive of step 0, its addition, and the send of step 1. -/
theorem part12_wp (v83 v99 v109 v233 : BitVec 32) {Q} :
    iprop(env m K ∗ owesS (F := F) c 6 ∗ stepLeft c 0 ∗ accPts c (lo 1 c) (sz 0) fullShare (A m 0 c) ∗ stepRes c 1 ∗ barPay c 1)
      ⊢ iprop(((stepDone c 0 ∗ rsPay m c 0 ∗ stepSent c 1 ∗ owesS (F := F) c 7 ∗ accPts c (lo 2 c) (sz 1) fullShare (A m 1 c))
          -∗ ∀ r, ⌜True⌝ -∗ Q r)
        -∗ WP c (k0_part12 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v83 v99 v109 v233) Q) := by
  rw [k0_part12_eq_skeleton]
  unfold k0_part12_skel
  simp only [semSignalWord, semWaitWord, Prog.lift, Prog.bind_op, Prog.bind_ret, Prog.pure_eq_ret]
  iintro ⟨#He, HO, Hst, Ha, Hres, Hb⟩ Hk
  iapply (wp_addSend m K c (k := 0) (by decide) rfl (off7_eq c) rfl rfl (off8_eq c) rfl (dev7_eq c) rfl rfl rfl pay15_add rfl) $$ [Hst HO Ha Hres Hb]
  · isplitr; · iexact He
    isplitl [Hst]; · iexact Hst
    isplitl [HO]; · iexact HO
    isplitl [Ha]; · iexact Ha
    isplitl [Hres]; · iexact Hres
    iexact Hb
  iintro H
  iapply (ret_of c (p := fun _ => True) trivial)
  iapply Hk
  iexact H

/-- The receive of step 1, its addition, and the send of step 2. -/
theorem part13_wp (v99 v125 v152 v427 : BitVec 32) {Q} :
    iprop(env m K ∗ owesS (F := F) c 7 ∗ stepSent c 1 ∗ accPts c (lo 2 c) (sz 1) fullShare (A m 1 c) ∗ stepRes c 2 ∗ barPay c 2)
      ⊢ iprop(((stepDone c 1 ∗ rsPay m c 1 ∗ stepSent c 2 ∗ owesS (F := F) c 8 ∗ accPts c (lo 3 c) (sz 2) fullShare (A m 2 c))
          -∗ ∀ r, ⌜True⌝ -∗ Q r)
        -∗ WP c (k0_part13 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v99 v125 v152 v427) Q) := by
  rw [k0_part13_eq_skeleton]
  unfold k0_part13_skel
  simp only [semSignalWord, semWaitWord, Prog.lift, Prog.bind_op, Prog.bind_ret, Prog.pure_eq_ret]
  iintro ⟨#He, HO, Hst, Ha, Hres, Hb⟩ Hk
  iapply (wp_sndWait m K c (t := 1) (by decide) rfl rfl) $$ [Hst HO]
  · isplitr; · iexact He
    isplitl [Hst]; · iexact Hst
    iexact HO
  iintro ⟨Hst, HO, _⟩
  iapply (wp_addSend m K c (k := 1) (by decide) rfl (off9_eq c) rfl rfl (off10_eq c) rfl (dev8_eq c) rfl rfl rfl pay16_add rfl) $$ [Hst HO Ha Hres Hb]
  · isplitr; · iexact He
    isplitl [Hst]; · iexact Hst
    isplitl [HO]; · iexact HO
    isplitl [Ha]; · iexact Ha
    isplitl [Hres]; · iexact Hres
    iexact Hb
  iintro H
  iapply (ret_of c (p := fun _ => True) trivial)
  iapply Hk
  iexact H

/-- The receive of step 2, its addition, and the send of step 3. -/
theorem part14_wp (v125 v168 v178 v458 : BitVec 32) {Q} :
    iprop(env m K ∗ owesS (F := F) c 8 ∗ stepSent c 2 ∗ accPts c (lo 3 c) (sz 2) fullShare (A m 2 c) ∗ stepRes c 3 ∗ barPay c 3)
      ⊢ iprop(((stepDone c 2 ∗ rsPay m c 2 ∗ stepSent c 3 ∗ owesS (F := F) c 9 ∗ accPts c (lo 4 c) (sz 3) fullShare (A m 3 c))
          -∗ ∀ r, ⌜True⌝ -∗ Q r)
        -∗ WP c (k0_part14 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v125 v168 v178 v458) Q) := by
  rw [k0_part14_eq_skeleton]
  unfold k0_part14_skel
  simp only [semSignalWord, semWaitWord, Prog.lift, Prog.bind_op, Prog.bind_ret, Prog.pure_eq_ret]
  iintro ⟨#He, HO, Hst, Ha, Hres, Hb⟩ Hk
  iapply (wp_sndWait m K c (t := 2) (by decide) rfl rfl) $$ [Hst HO]
  · isplitr; · iexact He
    isplitl [Hst]; · iexact Hst
    iexact HO
  iintro ⟨Hst, HO, _⟩
  iapply (wp_addSend m K c (k := 2) (by decide) rfl (off11_eq c) rfl rfl (off12_eq c) rfl (dev9_eq c) rfl rfl rfl pay17_add rfl) $$ [Hst HO Ha Hres Hb]
  · isplitr; · iexact He
    isplitl [Hst]; · iexact Hst
    isplitl [HO]; · iexact HO
    isplitl [Ha]; · iexact Ha
    isplitl [Hres]; · iexact Hres
    iexact Hb
  iintro H
  iapply (ret_of c (p := fun _ => True) trivial)
  iapply Hk
  iexact H

/-- The receive of step 3, its addition, and the send of step 4. -/
theorem part15_wp (v168 v194 v221 v489 : BitVec 32) {Q} :
    iprop(env m K ∗ owesS (F := F) c 9 ∗ stepSent c 3 ∗ accPts c (lo 4 c) (sz 3) fullShare (A m 3 c) ∗ stepRes c 4 ∗ barPay c 4)
      ⊢ iprop(((stepDone c 3 ∗ rsPay m c 3 ∗ stepSent c 4 ∗ owesS (F := F) c 10 ∗ accPts c (lo 5 c) (sz 4) fullShare (A m 4 c))
          -∗ ∀ r, ⌜True⌝ -∗ Q r)
        -∗ WP c (k0_part15 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v168 v194 v221 v489) Q) := by
  rw [k0_part15_eq_skeleton]
  unfold k0_part15_skel
  simp only [semSignalWord, semWaitWord, Prog.lift, Prog.bind_op, Prog.bind_ret, Prog.pure_eq_ret]
  iintro ⟨#He, HO, Hst, Ha, Hres, Hb⟩ Hk
  iapply (wp_sndWait m K c (t := 3) (by decide) rfl rfl) $$ [Hst HO]
  · isplitr; · iexact He
    isplitl [Hst]; · iexact Hst
    iexact HO
  iintro ⟨Hst, HO, _⟩
  iapply (wp_addSend m K c (k := 3) (by decide) rfl (off13_eq c) rfl rfl (off14_eq c) rfl (dev10_eq c) rfl rfl rfl pay18_add rfl) $$ [Hst HO Ha Hres Hb]
  · isplitr; · iexact He
    isplitl [Hst]; · iexact Hst
    isplitl [HO]; · iexact HO
    isplitl [Ha]; · iexact Ha
    isplitl [Hres]; · iexact Hres
    iexact Hb
  iintro H
  iapply (ret_of c (p := fun _ => True) trivial)
  iapply Hk
  iexact H

/-- The last receive of the reduction and its addition, then the first send of the gathering half. -/
theorem part16_wp (v194 v520 : BitVec 32) {Q} :
    iprop(env m K ∗ owesS (F := F) c 10 ∗ stepSent c 4 ∗ accPts c (lo 5 c) (sz 4) fullShare (A m 4 c) ∗ stepRes c 5)
      ⊢ iprop(((stepDone c 4 ∗ comL m c 4 ∗ stepLeft c 5 ∗ owesS (F := F) c 11 ∗ accPts c (lo 5 c) (sz 4) fullShare (FIN m))
          -∗ ∀ r, ⌜True⌝ -∗ Q r)
        -∗ WP c (k0_part16 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v194 v520) Q) := by
  rw [k0_part16_eq_skeleton]
  unfold k0_part16_skel
  simp only [semSignalWord, semWaitWord, Prog.lift, Prog.bind_op, Prog.bind_ret, Prog.pure_eq_ret]
  iintro ⟨#He, HO, Hst, Ha, Hres⟩ Hk
  iapply (wp_sndWait m K c (t := 4) (by decide) rfl rfl) $$ [Hst HO]
  · isplitr; · iexact He
    isplitl [Hst]; · iexact Hst
    iexact HO
  iintro ⟨Hst, HO, _⟩
  iapply (wp_rcvWait m K c (t := 4) (by decide) rfl rfl) $$ [Hst HO]
  · isplitr; · iexact He
    isplitl [Hst]; · iexact Hst
    iexact HO
  iintro ⟨Hd, HO, Hp⟩
  ihave Hp := (Entails.of_eq (payload_rsRcv m c 4 (by decide) 0)) $$ Hp
  iapply (wp_addStep m c (k := 4) (by decide) rfl (off15_eq c) rfl pay19_add) $$ [Ha Hp]
  · isplitl [Ha]; · iexact Ha
    iexact Hp
  iintro ⟨Ha, Hp⟩
  ihave Ha := (Entails.of_eq (acc_fin m c)) $$ Ha
  unfold rsPay
  icases Hp with ⟨Hc, Hx⟩
  iapply (wp_agSendF m K c (t := 5) (l := 4) (by decide) (by decide) rfl rfl (dev11_eq c) (off16_eq c) rfl rfl) $$ [Hres HO Ha Hx]
  · isplitr; · iexact He
    isplitl [Hres]; · iexact Hres
    isplitl [HO]; · iexact HO
    isplitl [Ha]; · iexact Ha
    iexact Hx
  iintro ⟨Hst, HO, Ha⟩
  iapply (wp_agSndWait m K c (t := 5) (l := 4) (by decide) (by decide) rfl rfl rfl) $$ [Hst HO Ha]
  · isplitr; · iexact He
    isplitl [Hst]; · iexact Hst
    isplitl [HO]; · iexact HO
    iexact Ha
  iintro ⟨Hst, HO, Ha⟩
  iapply (ret_of c (p := fun _ => True) trivial)
  iapply Hk
  isplitl [Hd]; · iexact Hd
  isplitl [Hc]; · iexact Hc
  isplitl [Hst]; · iexact Hst
  isplitl [HO]; · iexact HO
  iexact Ha

/-- The gathering half's steps at levels 4 and 3. -/
theorem part17_wp (v125 v168 v178 v194 v221 v520 : BitVec 32) {Q} :
    iprop(env m K ∗ owesS (F := F) c 11 ∗ stepLeft c 5 ∗ accPts c (lo 5 c) (sz 4) fullShare (FIN m) ∗ stepRes c 6 ∗ accX c 3)
      ⊢ iprop(((stepDone c 5 ∗ stepDone c 6 ∗ owesS (F := F) c 12 ∗ accPts c (lo 3 c) (sz 2) fullShare (FIN m))
          -∗ ∀ r, ⌜True⌝ -∗ Q r)
        -∗ WP c (k0_part17 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v125 v168 v178 v194 v221 v520) Q) := by
  rw [k0_part17_eq_skeleton]
  unfold k0_part17_skel
  simp only [semSignalWord, semWaitWord, Prog.lift, Prog.bind_op, Prog.bind_ret, Prog.pure_eq_ret]
  iintro ⟨#He, HO, Hst, Ha, Hres6, Hx3⟩ Hk
  iapply (wp_agRcvJoin m K c (t := 5) (l := 3) (by decide) (by decide) rfl (by decide) rfl rfl) $$ [Hst HO Ha]
  · isplitr; · iexact He
    isplitl [Hst]; · iexact Hst
    isplitl [HO]; · iexact HO
    iexact Ha
  iintro ⟨Hd5, HO, Ha⟩
  iapply (wp_agSendF m K c (t := 6) (l := 3) (by decide) (by decide) rfl rfl (dev12_eq c) (off17_eq c) rfl rfl) $$ [Hres6 HO Ha Hx3]
  · isplitr; · iexact He
    isplitl [Hres6]; · iexact Hres6
    isplitl [HO]; · iexact HO
    isplitl [Ha]; · iexact Ha
    iexact Hx3
  iintro ⟨Hst, HO, Ha⟩
  iapply (wp_agSndWait m K c (t := 6) (l := 3) (by decide) (by decide) rfl rfl rfl) $$ [Hst HO Ha]
  · isplitr; · iexact He
    isplitl [Hst]; · iexact Hst
    isplitl [HO]; · iexact HO
    iexact Ha
  iintro ⟨Hst, HO, Ha⟩
  iapply (wp_agRcvJoin m K c (t := 6) (l := 2) (by decide) (by decide) rfl (by decide) rfl rfl) $$ [Hst HO Ha]
  · isplitr; · iexact He
    isplitl [Hst]; · iexact Hst
    isplitl [HO]; · iexact HO
    iexact Ha
  iintro ⟨Hd6, HO, Ha⟩
  iapply (ret_of c (p := fun _ => True) trivial)
  iapply Hk
  isplitl [Hd5]; · iexact Hd5
  isplitl [Hd6]; · iexact Hd6
  isplitl [HO]; · iexact HO
  iexact Ha

/-- The gathering half's step at level 2 and the send at level 1. -/
theorem part18_wp (v99 v125 v152 v589 v590 : BitVec 32) {Q} :
    iprop(env m K ∗ owesS (F := F) c 12 ∗ accPts c (lo 3 c) (sz 2) fullShare (FIN m) ∗ stepRes c 7 ∗ accX c 2 ∗ stepRes c 8 ∗ accX c 1)
      ⊢ iprop(((stepDone c 7 ∗ stepSent c 8 ∗ owesS (F := F) c 14 ∗ accPts c (lo 2 c) (sz 1) fullShare.right (FIN m))
          -∗ ∀ r, ⌜True⌝ -∗ Q r)
        -∗ WP c (k0_part18 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v99 v125 v152 v589 v590) Q) := by
  rw [k0_part18_eq_skeleton]
  unfold k0_part18_skel
  simp only [semSignalWord, semWaitWord, Prog.lift, Prog.bind_op, Prog.bind_ret, Prog.pure_eq_ret]
  iintro ⟨#He, HO, Ha, Hres7, Hx2, Hres8, Hx1⟩ Hk
  iapply (wp_agSendF m K c (t := 7) (l := 2) (by decide) (by decide) rfl rfl (dev13_eq c) (off18_eq c) rfl rfl) $$ [Hres7 HO Ha Hx2]
  · isplitr; · iexact He
    isplitl [Hres7]; · iexact Hres7
    isplitl [HO]; · iexact HO
    isplitl [Ha]; · iexact Ha
    iexact Hx2
  iintro ⟨Hst, HO, Ha⟩
  iapply (wp_agSndWait m K c (t := 7) (l := 2) (by decide) (by decide) rfl rfl rfl) $$ [Hst HO Ha]
  · isplitr; · iexact He
    isplitl [Hst]; · iexact Hst
    isplitl [HO]; · iexact HO
    iexact Ha
  iintro ⟨Hst, HO, Ha⟩
  iapply (wp_agRcvJoin m K c (t := 7) (l := 1) (by decide) (by decide) rfl (by decide) rfl rfl) $$ [Hst HO Ha]
  · isplitr; · iexact He
    isplitl [Hst]; · iexact Hst
    isplitl [HO]; · iexact HO
    iexact Ha
  iintro ⟨Hd7, HO, Ha⟩
  iapply (wp_agSendF m K c (t := 8) (l := 1) (by decide) (by decide) rfl rfl (dev14_eq c) (off19_eq c) rfl rfl) $$ [Hres8 HO Ha Hx1]
  · isplitr; · iexact He
    isplitl [Hres8]; · iexact Hres8
    isplitl [HO]; · iexact HO
    isplitl [Ha]; · iexact Ha
    iexact Hx1
  iintro ⟨Hst, HO, Ha⟩
  iapply (ret_of c (p := fun _ => True) trivial)
  iapply Hk
  isplitl [Hd7]; · iexact Hd7
  isplitl [Hst]; · iexact Hst
  isplitl [HO]; · iexact HO
  iexact Ha

/-- The gathering half's last send, and the first half of the result. -/
theorem part19_wp (v83 v99 v109 v609 : BitVec 32) {Q} :
    iprop(env m K ∗ owesS (F := F) c 14 ∗ stepSent c 8 ∗ accPts c (lo 2 c) (sz 1) fullShare.right (FIN m) ∗ stepRes c 9 ∗ accX c 0
        ∗ outPts c (lo 1 c) (sz 0) (k0_pay14 (xV m c) (shV m c)))
      ⊢ iprop(((stepDone c 8 ∗ stepLeft c 9 ∗ owesS (F := F) c 15 ∗ accPts c (lo 1 c) (sz 0) fullShare (FIN m) ∗ outPts c (lo 1 c) (sz 0) (OUT m c))
          -∗ ∀ r, ⌜True⌝ -∗ Q r)
        -∗ WP c (k0_part19 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 c v83 v99 v109 v609) Q) := by
  rw [k0_part19_eq_skeleton]
  unfold k0_part19_skel
  simp only [semSignalWord, semWaitWord, Prog.lift, Prog.bind_op, Prog.bind_ret, Prog.pure_eq_ret]
  iintro ⟨#He, HO, Hst, Ha, Hres9, Hx0, Ho⟩ Hk
  iapply (wp_agSndWait m K c (t := 8) (l := 1) (by decide) (by decide) rfl rfl rfl) $$ [Hst HO Ha]
  · isplitr; · iexact He
    isplitl [Hst]; · iexact Hst
    isplitl [HO]; · iexact HO
    iexact Ha
  iintro ⟨Hst, HO, Ha⟩
  iapply (wp_agRcvJoin m K c (t := 8) (l := 0) (by decide) (by decide) rfl (by decide) rfl rfl) $$ [Hst HO Ha]
  · isplitr; · iexact He
    isplitl [Hst]; · iexact Hst
    isplitl [HO]; · iexact HO
    iexact Ha
  iintro ⟨Hd8, HO, Ha⟩
  iapply (wp_agSendF m K c (t := 9) (l := 0) (by decide) (by decide) rfl rfl (dev15_eq c) (off20_eq c) rfl rfl) $$ [Hres9 HO Ha Hx0]
  · isplitr; · iexact He
    isplitl [Hres9]; · iexact Hres9
    isplitl [HO]; · iexact HO
    isplitl [Ha]; · iexact Ha
    iexact Hx0
  iintro ⟨Hst, HO, Ha⟩
  iapply (wp_outStep m c (n := 512) (off21_eq c) pay20_add) $$ [Ho Ha]
  · isplitl [Ho]; · iexact Ho
    iexact Ha
  iintro ⟨Ho, Ha⟩
  iapply (wp_agSndWait m K c (t := 9) (l := 0) (by decide) (by decide) rfl rfl rfl) $$ [Hst HO Ha]
  · isplitr; · iexact He
    isplitl [Hst]; · iexact Hst
    isplitl [HO]; · iexact HO
    iexact Ha
  iintro ⟨Hst, HO, Ha⟩
  iapply (ret_of c (p := fun _ => True) trivial)
  iapply Hk
  isplitl [Hd8]; · iexact Hd8
  isplitl [Hst]; · iexact Hst
  isplitl [HO]; · iexact HO
  isplitl [Ha]; · iexact Ha
  iexact Ho

end Cert.MoeProof

end
-- ==== Proof.Body.lean ====
/-
  The whole body on one device: from the resources it starts with to those it ends with.
-/
module

public import proofs.«01_k».proof.Proof.Parts

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 22 → ℕ) (c : Dev nD)

/-- A piece followed by the rest. -/
theorem bind_of {α β : Type} {Q : β → sProp 𝕄} {p : Prog (TpuEff nD τ sig (Elt F) Λ₀ .tc) α} {k : α → Prog (TpuEff nD τ sig (Elt F) Λ₀ .tc) β} :
    WP (F := F) c p (fun a => WP c (k a) Q) ⊢ WP (F := F) c (p >>= k) Q := by
  exact Entails.of_eq (wp_bind _ _ _ _ _ _).symm

/-- A finished piece. -/
theorem ret_q {α : Type} {Q : α → sProp 𝕄} {a : α} : Q a ⊢ WP (F := F) c (.ret a) Q := by
  show _ ⊢ iprop(|={Set.univ}[frame]=> Q a)
  iintro H
  imodintro
  iexact H

/-- What a receive of the reduction hands over, in its two pieces. -/
theorem rsPay_eq (k : ℕ) : (rsPay m c k : sProp 𝕄) = iprop(comL m c k ∗ accX c k) := rfl

/-- The device's number, and the arithmetic on it. -/
def res1 (r : Σ' (_ : Dev nD) (_ : BitVec 32) (_ : BitVec 32) (_ : BitVec 32) (_ : BitVec 32) (_ : BitVec 32) (_ : BitVec 32) (_ : BitVec 32), BitVec 1) : Prop :=
  ∃ a0 a1 a2 a3 a4 a5 a6, r = ⟨c, devW c, a0, a1, a2, a3, a4, a5, a6⟩
/-- The first part finds the device's coordinates. -/
theorem part1_wp {Q} :
    iprop(∀ r, ⌜res1 c r⌝ -∗ Q r) ⊢ WP c (k0_part1 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4) Q := by
  rw [k0_part1_eq_skeleton]
  unfold k0_part1_skel
  simp only [Prog.lift, Prog.bind_op, Prog.bind_ret, Prog.pure_eq_ret, wp_deviceId]
  exact ret_of c (p := res1 c) ⟨_, _, _, _, _, _, _, rfl⟩
/-- The second part only computes partners' numbers, -/
theorem part2_wp (v19 v29 c2_i32 v30 v35 v37 : BitVec 32) (v38 : BitVec 1) {Q} :
    iprop(∀ r, ⌜True⌝ -∗ Q r) ⊢ WP c (k0_part2 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 v19 v29 c2_i32 v30 v35 v37 v38) Q := by
  rw [k0_part2_eq_skeleton]
  unfold k0_part2_skel
  exact ret_of c (p := fun _ => True) trivial
/-- and so does the third, -/
theorem part3_wp (v19 v46 v67 v68 v71 v73 v74 : BitVec 32) (v75 v76 : BitVec 1) {Q} :
    iprop(∀ r, ⌜True⌝ -∗ Q r) ⊢ WP c (k0_part3 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 v19 v46 v67 v68 v71 v73 v74 v75 v76) Q := by
  rw [k0_part3_eq_skeleton]
  unfold k0_part3_skel
  exact ret_of c (p := fun _ => True) trivial
/-- the fourth, -/
theorem part4_wp (v19 v46 v67 v110 v113 c2_i32_56 : BitVec 32) (v114 : BitVec 1) (c1_i32_58 : BitVec 32) {Q} :
    iprop(∀ r, ⌜True⌝ -∗ Q r) ⊢ WP c (k0_part4 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 v19 v46 v67 v110 v113 c2_i32_56 v114 c1_i32_58) Q := by
  rw [k0_part4_eq_skeleton]
  unfold k0_part4_skel
  exact ret_of c (p := fun _ => True) trivial
/-- and the fifth. -/
theorem part5_wp (v19 v46 v67 v154 v155 : BitVec 32) {Q} :
    iprop(∀ r, ⌜True⌝ -∗ Q r) ⊢ WP c (k0_part5 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4 v19 v46 v67 v154 v155) Q := by
  rw [k0_part5_eq_skeleton]
  unfold k0_part5_skel
  exact ret_of c (p := fun _ => True) trivial

/-- What the body starts with, besides what it only reads of the schedule. -/
def bodyPre : sProp 𝕄 :=
  iprop(owesS c 0 ∗ (tokB c 0 ∗ tokB c 1 ∗ tokB c 2 ∗ tokB c 3 ∗ tokB c 4) ∗ (tokX c 0 ∗ tokX c 1 ∗ tokX c 2 ∗ tokX c 3 ∗ tokX c 4) ∗ (stepRes c 0 ∗ stepRes c 1 ∗ stepRes c 2 ∗ stepRes c 3 ∗ stepRes c 4 ∗ stepRes c 5 ∗ stepRes c 6 ∗ stepRes c 7 ∗ stepRes c 8 ∗ stepRes c 9)
    ∗ (cred (tallyAt ((c : Thread nD τ), .reg barS) () 5) ∗ atPos ER ((c : Thread nD τ), .reg barS) 0 ∅ 0)
    ∗ (cred (tallyAt ((c : Thread nD τ), .reg exS) () 5) ∗ atPos ER ((c : Thread nD τ), .reg exS) 0 ∅ 0)
    ∗ (comE c 0 ∗ comE c 1 ∗ comE c 2 ∗ comE c 3 ∗ comE c 4)
    ∗ (∃ f, accPts (F := F) c (lo 1 c) (sz 0) fullShare f) ∗ (∃ f, accPts (F := F) c (lo 1 (prt 0 c)) (sz 0) fullShare f)
    ∗ (∃ f, outPts (F := F) c (lo 0 c) (sz 0 + sz 0) f) ∗ insP m c)
/-- What the body ends with. -/
def bodyPost : sProp 𝕄 :=
  iprop(owesS c 20 ∗ atPos ER ((c : Thread nD τ), .reg barS) 1 ∅ 0 ∗ atPos ER ((c : Thread nD τ), .reg exS) 1 ∅ 0
    ∗ (stepDone c 0 ∗ stepDone c 1 ∗ stepDone c 2 ∗ stepDone c 3 ∗ stepDone c 4 ∗ stepDone c 5 ∗ stepDone c 6 ∗ stepDone c 7 ∗ stepDone c 8 ∗ stepDone c 9) ∗ (comL m c 0 ∗ comL m c 1 ∗ comL m c 2 ∗ comL m c 3 ∗ comL m c 4)
    ∗ accPts c (lo 1 c) (sz 0) fullShare (FIN m) ∗ accPts c (lo 1 (prt 0 c)) (sz 0) fullShare (FIN m)
    ∗ outPts c (lo 1 c) (sz 0) (OUT m c) ∗ outPts c (lo 1 (prt 0 c)) (sz 0) (OUT m c) ∗ insP m c)
/-- What is left before the last three exit units. -/
def tailPre : sProp 𝕄 :=
  iprop(owesS c 17 ∗ (tokX c 2 ∗ tokX c 3 ∗ tokX c 4) ∗ (cred (tallyAt ((c : Thread nD τ), .reg exS) () 5) ∗ atPos ER ((c : Thread nD τ), .reg exS) 0 ∅ 0)
    ∗ atPos ER ((c : Thread nD τ), .reg barS) 1 ∅ 0
    ∗ (stepDone c 0 ∗ stepDone c 1 ∗ stepDone c 2 ∗ stepDone c 3 ∗ stepDone c 4 ∗ stepDone c 5 ∗ stepDone c 6 ∗ stepDone c 7 ∗ stepDone c 8 ∗ stepDone c 9) ∗ (comL m c 0 ∗ comL m c 1 ∗ comL m c 2 ∗ comL m c 3 ∗ comL m c 4)
    ∗ accPts c (lo 1 c) (sz 0) fullShare (FIN m) ∗ accPts c (lo 1 (prt 0 c)) (sz 0) fullShare (FIN m)
    ∗ outPts c (lo 1 c) (sz 0) (OUT m c) ∗ outPts c (lo 1 (prt 0 c)) (sz 0) (OUT m c) ∗ insP m c)

/-- What the last part hands on. -/
def res20 (r : Σ' (_ : Dev nD) (_ : BitVec 32) (_ : BitVec 32), BitVec 32) : Prop := ∃ a0 a1 a2, r = ⟨c, a0, a1, a2⟩

/-- The result's two halves. -/
theorem out_split (f : Vec F S1024x512 .f32) :
    (outPts c (lo 0 c) (sz 0 + sz 0) f : sProp 𝕄) ⊣⊢ iprop(outPts c (lo 1 c) (sz 0) f ∗ outPts c (lo 1 (prt 0 c)) (sz 0) f) :=
  rowPts_union outM c (rws_split 0 (by decide) c) (rws_split_disjoint 0 (by decide) c) _ f

/-- The body up to the second exit unit. -/
theorem part20_wp {Q} :
    iprop(env m K ∗ bodyPre m c)
      ⊢ iprop((tailPre m c -∗ ∀ r, ⌜res20 c r⌝ -∗ Q r) -∗ WP c (k0_part20 (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4) Q) := by
  rw [k0_part20_eq_skeleton]
  unfold k0_part20_skel bodyPre tailPre
  iintro ⟨#He, HO, ⟨Htb0, Htb1, Htb2, Htb3, Htb4⟩, ⟨Htx0, Htx1, Htx2⟩, ⟨Hres0, Hres1, Hres2, Hres3, Hres4, Hres5, Hres6, Hres7, Hres8, Hres9⟩, ⟨Hcb, Hab⟩, Hex, ⟨Hc0, Hc1, Hc2, Hc3, Hc4⟩, Ha, Hb, Ho, Hin⟩ Hk
  iapply (bind_of c)
  iapply (part1_wp c)
  iintro %r %hr
  obtain ⟨v19, v29, c2, v30, v35, v37, v38, rfl⟩ := hr
  dsimp only
  iapply (bind_of c)
  iapply (part2_wp c _ _ _ _ _ _ _)
  iintro %r %hr
  obtain ⟨x0, x1, x2, x3, x4, x5, x6, x7⟩ := r
  dsimp only
  iapply (bind_of c)
  iapply (part3_wp c _ _ _ _ _ _ _ _ _)
  iintro %r %hr
  obtain ⟨x0, x1, x2, x3, x4, x5, x6, x7⟩ := r
  dsimp only
  iapply (bind_of c)
  iapply (part4_wp c _ _ _ _ _ _ _ _)
  iintro %r %hr
  obtain ⟨x0, x1, x2, x3⟩ := r
  dsimp only
  iapply (bind_of c)
  iapply (part5_wp c _ _ _ _ _)
  iintro %r %hr
  obtain ⟨x0, x1, x2⟩ := r
  dsimp only
  iapply (bind_of c)
  iapply (part6_wp m K c _ _ _ _) $$ [HO Htb0 Htb1 Htb2 Hc0 Hc1 Hc2]
  · isplitr; · iexact He
    isplitl [HO]; · iexact HO
    isplitl [Htb0]; · iexact Htb0
    isplitl [Htb1]; · iexact Htb1
    isplitl [Htb2]; · iexact Htb2
    isplitl [Hc0]; · iexact Hc0
    isplitl [Hc1]; · iexact Hc1
    iexact Hc2
  iintro HO %r %hr
  obtain ⟨v221, rfl⟩ := hr
  dsimp only
  iapply (bind_of c)
  iapply (part7_wp m K c _ _ _) $$ [HO Htb3 Htb4 Hc3 Hc4 Hcb Hab Hin]
  · isplitr; · iexact He
    isplitl [HO]; · iexact HO
    isplitl [Htb3]; · iexact Htb3
    isplitl [Htb4]; · iexact Htb4
    isplitl [Hc3]; · iexact Hc3
    isplitl [Hc4]; · iexact Hc4
    isplitl [Hcb]; · iexact Hcb
    isplitl [Hab]; · iexact Hab
    iexact Hin
  iintro ⟨HO, Hab, Hp0, Hp1, Hp2, Hp3, Hp4, Hin⟩ %r %hr
  obtain ⟨v233, v235, rfl⟩ := hr
  dsimp only
  iapply (bind_of c)
  iapply (part8_wp m c _ _ _ _ _) $$ [Hin]
  · iexact Hin
  iintro Hin %r %hr
  subst hr
  dsimp only
  iapply (bind_of c)
  iapply (part9_wp m K c _ _ _) $$ [HO Hres0 Hp0 Hb Hin]
  · isplitr; · iexact He
    isplitl [HO]; · iexact HO
    isplitl [Hres0]; · iexact Hres0
    isplitl [Hp0]; · iexact Hp0
    isplitl [Hb]; · iexact Hb
    iexact Hin
  iintro ⟨HO, Hst, Hin⟩ %r %hr
  subst hr
  dsimp only
  iapply (bind_of c)
  iapply (part10_wp m c _ _ _) $$ [Hin]
  · iexact Hin
  iintro Hin %r %hr
  subst hr
  dsimp only
  iapply (bind_of c)
  iapply (part11_wp m K c _) $$ [HO Hst Ha Ho Hin]
  · isplitr; · iexact He
    isplitl [HO]; · iexact HO
    isplitl [Hst]; · iexact Hst
    isplitl [Ha]; · iexact Ha
    isplitl [Ho]; · iexact Ho
    iexact Hin
  iintro ⟨HO, Hst, Ha, Ho, Hin⟩ %r %hr
  ihave Hs := (out_split c _).1 $$ Ho
  icases Hs with ⟨Ho1, Ho2⟩
  iapply (bind_of c)
  iapply (part12_wp m K c _ _ _ _) $$ [HO Hst Ha Hres1 Hp1]
  · isplitr; · iexact He
    isplitl [HO]; · iexact HO
    isplitl [Hst]; · iexact Hst
    isplitl [Ha]; · iexact Ha
    isplitl [Hres1]; · iexact Hres1
    iexact Hp1
  iintro ⟨Hd0, Hy, Hst, HO, Ha⟩ %r %hr
  ihave Hy := (Entails.of_eq (rsPay_eq m c 0)) $$ Hy
  icases Hy with ⟨Hl0, Hx0⟩
  iapply (bind_of c)
  iapply (part13_wp m K c _ _ _ _) $$ [HO Hst Ha Hres2 Hp2]
  · isplitr; · iexact He
    isplitl [HO]; · iexact HO
    isplitl [Hst]; · iexact Hst
    isplitl [Ha]; · iexact Ha
    isplitl [Hres2]; · iexact Hres2
    iexact Hp2
  iintro ⟨Hd1, Hy, Hst, HO, Ha⟩ %r %hr
  ihave Hy := (Entails.of_eq (rsPay_eq m c 1)) $$ Hy
  icases Hy with ⟨Hl1, Hx1⟩
  iapply (bind_of c)
  iapply (part14_wp m K c _ _ _ _) $$ [HO Hst Ha Hres3 Hp3]
  · isplitr; · iexact He
    isplitl [HO]; · iexact HO
    isplitl [Hst]; · iexact Hst
    isplitl [Ha]; · iexact Ha
    isplitl [Hres3]; · iexact Hres3
    iexact Hp3
  iintro ⟨Hd2, Hy, Hst, HO, Ha⟩ %r %hr
  ihave Hy := (Entails.of_eq (rsPay_eq m c 2)) $$ Hy
  icases Hy with ⟨Hl2, Hx2⟩
  iapply (bind_of c)
  iapply (part15_wp m K c _ _ _ _) $$ [HO Hst Ha Hres4 Hp4]
  · isplitr; · iexact He
    isplitl [HO]; · iexact HO
    isplitl [Hst]; · iexact Hst
    isplitl [Ha]; · iexact Ha
    isplitl [Hres4]; · iexact Hres4
    iexact Hp4
  iintro ⟨Hd3, Hy, Hst, HO, Ha⟩ %r %hr
  ihave Hy := (Entails.of_eq (rsPay_eq m c 3)) $$ Hy
  icases Hy with ⟨Hl3, Hx3⟩
  iapply (bind_of c)
  iapply (part16_wp m K c _ _) $$ [HO Hst Ha Hres5]
  · isplitr; · iexact He
    isplitl [HO]; · iexact HO
    isplitl [Hst]; · iexact Hst
    isplitl [Ha]; · iexact Ha
    iexact Hres5
  iintro ⟨Hd4, Hl4, Hst, HO, Ha⟩ %r %hr
  iapply (bind_of c)
  iapply (part17_wp m K c _ _ _ _ _ _) $$ [HO Hst Ha Hres6 Hx3]
  · isplitr; · iexact He
    isplitl [HO]; · iexact HO
    isplitl [Hst]; · iexact Hst
    isplitl [Ha]; · iexact Ha
    isplitl [Hres6]; · iexact Hres6
    iexact Hx3
  iintro ⟨Hd5, Hd6, HO, Ha⟩ %r %hr
  obtain ⟨x0, x1⟩ := r
  dsimp only
  iapply (bind_of c)
  iapply (part18_wp m K c _ _ _ _ _) $$ [HO Ha Hres7 Hx2 Hres8 Hx1]
  · isplitr; · iexact He
    isplitl [HO]; · iexact HO
    isplitl [Ha]; · iexact Ha
    isplitl [Hres7]; · iexact Hres7
    isplitl [Hx2]; · iexact Hx2
    isplitl [Hres8]; · iexact Hres8
    iexact Hx1
  iintro ⟨Hd7, Hst, HO, Ha⟩ %r %hr
  iapply (bind_of c)
  iapply (part19_wp m K c _ _ _ _) $$ [HO Hst Ha Hres9 Hx0 Ho1]
  · isplitr; · iexact He
    isplitl [HO]; · iexact HO
    isplitl [Hst]; · iexact Hst
    isplitl [Ha]; · iexact Ha
    isplitl [Hres9]; · iexact Hres9
    isplitl [Hx0]; · iexact Hx0
    iexact Ho1
  iintro ⟨Hd8, Hst, HO, Ha, Ho1⟩ %r %hr
  simp only [semSignalWord, semWaitWord, Prog.lift, Prog.bind_op, Prog.bind_ret, Prog.pure_eq_ret]
  iapply (wp_agRcvWait m K c (t := 9) (l := 0) (by decide) (by decide) rfl rfl rfl) $$ [Hst HO]
  · isplitr; · iexact He
    isplitl [Hst]; · iexact Hst
    iexact HO
  iintro ⟨Hd9, HO, Hb⟩
  iapply (wp_outStep m c (n := 512) (off3_eq c) pay21_add) $$ [Ho2 Hb]
  · isplitl [Ho2]; · iexact Ho2
    iexact Hb
  iintro ⟨Ho2, Hb⟩
  iapply (wp_exSig m K c (k := 0) (by decide) (dev16_eq c) rfl rfl) $$ [HO Htx0]
  · isplitr; · iexact He
    isplitl [HO]; · iexact HO
    iexact Htx0
  iintro HO
  iapply (wp_exSig m K c (k := 1) (by decide) (dev17_eq c) rfl rfl) $$ [HO Htx1]
  · isplitr; · iexact He
    isplitl [HO]; · iexact HO
    iexact Htx1
  iintro HO
  iapply (ret_of c (p := res20 c) ⟨_, _, _, rfl⟩)
  iapply Hk
  isplitl [HO]; · iexact HO
  isplitl [Htx2]; · iexact Htx2
  isplitl [Hex]; · iexact Hex
  isplitl [Hab]; · iexact Hab
  isplitl [Hd0 Hd1 Hd2 Hd3 Hd4 Hd5 Hd6 Hd7 Hd8 Hd9]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    iexact Hd9
  isplitl [Hl0 Hl1 Hl2 Hl3 Hl4]
  · isplitl [Hl0]; · iexact Hl0
    isplitl [Hl1]; · iexact Hl1
    isplitl [Hl2]; · iexact Hl2
    isplitl [Hl3]; · iexact Hl3
    iexact Hl4
  isplitl [Ha]; · iexact Ha
  isplitl [Hb]; · iexact Hb
  isplitl [Ho1]; · iexact Ho1
  isplitl [Ho2]; · iexact Ho2
  iexact Hin

/-- The whole body. -/
theorem body_wp {Q} :
    iprop(env m K ∗ bodyPre m c)
      ⊢ iprop((bodyPost m c -∗ Q ⟨⟩) -∗ WP c (cc0_body (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4) Q) := by
  rw [cc0_body_eq_skeleton]
  unfold cc0_body_skel
  iintro ⟨#He, Hpre⟩ Hk
  iapply (bind_of c)
  iapply (part20_wp m K c) $$ [Hpre]
  · isplitr; · iexact He
    iexact Hpre
  iintro Ht %r %hr
  obtain ⟨v168, v194, v672, rfl⟩ := hr
  dsimp only
  simp only [semSignalWord, semWaitWord, Prog.lift, Prog.bind_op, Prog.bind_ret, Prog.pure_eq_ret]
  unfold tailPre bodyPost
  icases Ht with ⟨HO, ⟨Htx2, Htx3, Htx4⟩, ⟨Hce, Hae⟩, Hab, Hrest⟩
  iapply (wp_exSig m K c (k := 2) (by decide) (dev18_eq c) rfl rfl) $$ [HO Htx2]
  · isplitr; · iexact He
    isplitl [HO]; · iexact HO
    iexact Htx2
  iintro HO
  iapply (wp_exSig m K c (k := 3) (by decide) (dev19_eq c) rfl rfl) $$ [HO Htx3]
  · isplitr; · iexact He
    isplitl [HO]; · iexact HO
    iexact Htx3
  iintro HO
  iapply (wp_exSig m K c (k := 4) (by decide) (dev20_eq c) rfl rfl) $$ [HO Htx4]
  · isplitr; · iexact He
    isplitl [HO]; · iexact HO
    iexact Htx4
  iintro HO
  iapply (wp_exWait m K c rfl rfl) $$ [Hce HO Hae]
  · isplitr; · iexact He
    isplitl [Hce]; · iexact Hce
    isplitl [HO]; · iexact HO
    iexact Hae
  iintro ⟨HO, Hae⟩
  iapply (ret_q c)
  iapply Hk
  isplitl [HO]; · iexact HO
  isplitl [Hab]; · iexact Hab
  isplitl [Hae]; · iexact Hae
  iexact Hrest

end Cert.MoeProof

end
-- ==== Proof.Deal.lean ====
/-
  Before the first step: the cells and duty tokens every device starts with, the tokens dealt to the devices that pay
  them, and the credit for what the other devices will pay.
-/
module

public import proofs.«01_k».proof.Proof.Body

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells by what they are for -/

/-- The kinds of a device's counters: the barrier's, the exit's, ten for sending and ten for receiving, -/
abbrev CellKind : Type := Unit ⊕ (Unit ⊕ (Fin 10 ⊕ Fin 10))
/-- each with its place among the 22; -/
def kindIx : CellKind → Fin 22
  | .inl _ => 0
  | .inr (.inl _) => 1
  | .inr (.inr (.inl t)) => ⟨2 + t.val, by omega⟩
  | .inr (.inr (.inr t)) => ⟨12 + t.val, by omega⟩
/-- every place is taken once. -/
def kindE : CellKind ≃ Fin 22 := Equiv.ofBijective kindIx (by decide +kernel)

/-- Something for each of a device's cells: for the barrier, the exit, the ten sends and the ten receives. -/
theorem bigSep_cells (Φ : SemLoc sig → sProp 𝕄) :
    (bigSep Finset.univ fun j : Fin 22 => Φ (csem j))
      = iprop(Φ (.reg barS) ∗ Φ (.reg exS) ∗ (bigSep Finset.univ fun t : Fin 10 => Φ (.dma (sndS t.val))) ∗ bigSep Finset.univ fun t : Fin 10 => Φ (.dma (rcvS t.val))) := by
  have hU (Ψ : Unit → sProp 𝕄) : bigSep Finset.univ Ψ = Ψ () := bigSep_singleton
  have hS : ∀ t : Fin 10, csem (kindE (.inr (.inr (.inl t)))) = .dma (sndS t.val) := by
    show ∀ t : Fin 10, csem (kindIx (.inr (.inr (.inl t)))) = .dma (sndS t.val); decide +kernel
  have hR : ∀ t : Fin 10, csem (kindE (.inr (.inr (.inr t)))) = .dma (rcvS t.val) := by
    show ∀ t : Fin 10, csem (kindIx (.inr (.inr (.inr t)))) = .dma (rcvS t.val); decide +kernel
  rw [bigSep_univ_equiv kindE (fun j : Fin 22 => Φ (csem j)), bigSep_univ_sum, bigSep_univ_sum, bigSep_univ_sum, hU, hU]
  rw [bigSep_congr (s := Finset.univ) (fun (t : Fin 10) _ => congrArg Φ (hS t)), bigSep_congr (s := Finset.univ) (fun (t : Fin 10) _ => congrArg Φ (hR t))]
  rfl

/-- Five things held are the five. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- Ten things held are the ten. -/
theorem bigSep_ten (Φ : ℕ → sProp 𝕄) : (bigSep Finset.univ fun t : Fin 10 => Φ t.val)
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) (fun t : Fin 10 => Φ t.val)

/-! ## The semaphores of the launch -/

/-- The kernel's own semaphores: all the cells but the barrier. -/
def osem (j : Unit ⊕ (Fin 10 ⊕ Fin 10)) : SemLoc sig := csem (kindIx (.inr j))

/-- The counters named are the kernel's own. -/
theorem ownSemFacts : Pipeline.OwnSemFacts cfg0.spec osem := by decide +kernel

/-- A device's cells at zero are its own semaphores and the one the launch does not scope, all at zero. -/
theorem sems0_eq (c : Dev nD) :
    (bigSep Finset.univ fun j : Fin 22 => semVal (kcell (c, j)) 0 : sProp 𝕄)
      = iprop(unscopedSems0 c ∗ Pipeline.ownSems0 (Ix := Unit) (Name := ℕ) (U := UU) (Lvl := ℕ) (Val := Elt F) (τ := τ) osem c) := by
  have hU (Ψ : Unit → sProp 𝕄) : bigSep Finset.univ Ψ = Ψ () := bigSep_singleton
  rw [bigSep_univ_equiv kindE (fun j : Fin 22 => (semVal (kcell (c, j)) 0 : sProp 𝕄)), bigSep_univ_sum, hU]
  unfold unscopedSems0
  rw [bigSep_eq_bigSepL_of_eq [SemLoc.reg barS] (by decide) (by decide)]
  rfl

/-! ## Cells and tokens as minted -/

/-- No two of them are the same counter. -/
theorem kcell_injective : Function.Injective (kcell : Dev nD × Fin 22 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All of the devices' counters. -/
def allCells : Finset (GSem nD τ sig) := Finset.univ.map ⟨kcell, kcell_injective⟩

/-- The kinds of a device's duties: five arrivals at each barrier, and one at each sending and receiving counter. -/
abbrev TokKind : Type := Fin 5 ⊕ (Fin 5 ⊕ (Fin 10 ⊕ Fin 10))
/-- The duties of a device's own cells: five at the barrier, five at the exit, one at each transfer semaphore. -/
def tokSem : TokKind → SemLoc sig × Fin 5
  | .inl k => (.reg barS, k)
  | .inr (.inl k) => (.reg exS, k)
  | .inr (.inr (.inl t)) => (.dma (sndS t.val), 0)
  | .inr (.inr (.inr t)) => (.dma (rcvS t.val), 0)
/-- No two kinds are the same duty of the same counter. -/
theorem tokSem_injective : Function.Injective tokSem := by decide +kernel
/-- The duty of a kind on a device. -/
abbrev tokOf (cj : Dev nD × TokKind) : GSem nD τ sig × ℕ × Fin 5 := (((cj.1 : Thread nD τ), (tokSem cj.2).1), 0, (tokSem cj.2).2)
/-- No two are the same. -/
theorem tokOf_injective : Function.Injective tokOf := by
  rintro ⟨c, j⟩ ⟨c', j'⟩ h
  have h1 : c = c' := congrArg (fun x : GSem nD τ sig × ℕ × Fin 5 => x.1.1.1) h
  have h2 : j = j' := tokSem_injective (congrArg (fun x : GSem nD τ sig × ℕ × Fin 5 => (x.1.2, x.2.2)) h)
  rw [h1, h2]
/-- All of the devices' duties. -/
def allToks : Finset (GSem nD τ sig × ℕ × Fin 5) := Finset.univ.map ⟨tokOf, tokOf_injective⟩

/-- What the proof starts from: the staging counters' resources, and the exchange's. -/
def u₀ : UU := (initOf (Pipeline.cells cfgs cellOf_inj) (Pipeline.launchToks cfgs cellOf_inj), initOf allCells allToks)

/-- The tokens of a device's own cells. -/
def ownToks (c : Dev nD) : sProp 𝕄 :=
  iprop((bigSep Finset.univ fun k : Fin 5 => dutyTok ER ((c : Thread nD τ), .reg barS) 0 k)
    ∗ (bigSep Finset.univ fun k : Fin 5 => dutyTok ER ((c : Thread nD τ), .reg exS) 0 k)
    ∗ (bigSep Finset.univ fun t : Fin 10 => dutyTok ER (sndC t.val c) 0 (0 : Fin 5))
    ∗ bigSep Finset.univ fun t : Fin 10 => dutyTok ER (rcvC t.val c) 0 (0 : Fin 5))

/-- The tokens of the duties a device pays. -/
def payToks (c : Dev nD) : sProp 𝕄 :=
  iprop((bigSep Finset.univ fun k : Fin 5 => tokB c k)
    ∗ (bigSep Finset.univ fun k : Fin 5 => tokX c k)
    ∗ (bigSep Finset.univ fun t : Fin 10 => dutyTok ER (sndC t.val c) 0 (0 : Fin 5))
    ∗ bigSep Finset.univ fun t : Fin 10 => dutyTok ER (rcvC t.val (prt (lvl t.val) c)) 0 (0 : Fin 5))

/-- One exchange with the level's partner leaves the same tokens over all devices. -/
theorem around {I : Type} [Fintype I] (l : I → Fin 5) (Φ : Dev nD → I → sProp 𝕄) :
    (bigSep Finset.univ fun c : Dev nD => bigSep Finset.univ fun k : I => Φ c k)
      = bigSep Finset.univ fun c : Dev nD => bigSep Finset.univ fun k : I => Φ (prt (l k).val c) k := by
  rw [bigSep_univ_comm, bigSep_univ_comm (fun c k => Φ (prt (l k).val c) k)]
  exact bigSep_congr fun k _ => bigSep_univ_equiv (prtE (l k)) fun c => Φ c k

/-- The duties on every device's own counters are the duties that every device pays. -/
theorem toks_around : (bigSep Finset.univ fun c : Dev nD => (ownToks c : sProp 𝕄)) = bigSep Finset.univ fun c : Dev nD => payToks c := by
  have hl : ∀ t : Fin 10, lvl t.val < 5 := by decide +kernel
  unfold ownToks payToks
  rw [bigSep_sep', bigSep_sep', bigSep_sep', bigSep_sep', bigSep_sep', bigSep_sep',
    around (fun k => k) (fun c k => (dutyTok ER ((c : Thread nD τ), .reg barS) 0 k : sProp 𝕄)),
    around (fun k => k) (fun c k => (dutyTok ER ((c : Thread nD τ), .reg exS) 0 k : sProp 𝕄)),
    around (fun t => ⟨lvl t.val, hl t⟩) (fun c (t : Fin 10) => (dutyTok ER (rcvC t.val c) 0 (0 : Fin 5) : sProp 𝕄))]

/-- What the launch deals device `c`. -/
def G (c : Dev nD) : sProp 𝕄 :=
  iprop((bigSep Finset.univ fun j : Fin 22 => roundState ER (exRd m) (kcell (c, j)) 0)
    ∗ ((bigSep Finset.univ fun j : Fin 22 => atPos ER (kcell (c, j)) 0 ∅ 0) ∗ bigSep Finset.univ fun j : Fin 22 => reached ER (kcell (c, j)) 0) ∗ ownToks c)

/-- A device's positions at its cells and the tokens of the duties it pays. -/
def linear (c : Dev nD) : sProp 𝕄 := iprop((bigSep Finset.univ fun j : Fin 22 => atPos ER (kcell (c, j)) 0 ∅ 0) ∗ payToks c)

/-- What device `c` has once the cells are shared. -/
def G' (c : Dev nD) : sProp 𝕄 := iprop(∃ K, records m K ∗ linear c)

/-- The starting resources are every device's counters and duties. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 22 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_sum, bigSep_univ_sum]; rfl
  unfold G; simp only [bigSep_sep']
  iintro HX
  imod (Rounds.fund ER (exRd m) allCells allToks) $$ HX with ⟨Hst, Hr, Hat, Htok⟩
  imodintro
  isplitl [Hst]; · iapply (Entails.of_eq (hX fun g => roundState ER (exRd m) g 0)); iexact Hst
  isplitl [Hat Hr]
  · isplitl [Hat]; · iapply (Entails.of_eq (hX fun g => atPos ER g 0 ∅ 0)); iexact Hat
    iapply (Entails.of_eq (hX fun g => reached ER g 0)); iexact Hr
  iapply (Entails.of_eq hT); iexact Htok

/-- A device's counters at zero and its round states become shared cells. -/
theorem cells_alloc (c : Dev nD) :
    iprop((bigSep Finset.univ fun j : Fin 22 => semVal (kcell (c, j)) 0) ∗ bigSep Finset.univ fun j : Fin 22 => roundState ER (exRd m) (kcell (c, j)) 0)
      ⊢ (|={Set.univ}=> bigSep Finset.univ fun j => iprop(∃ κ : ℕ, cellInv ER (exRd m) κ (kcell (c, j))) : sProp 𝕄) := by
  rw [← bigSep_sep']
  exact (bigSep_mono fun k _ => (Rounds.body_intro ER (exRd m) (kcell (c, k))).trans inv_alloc).trans (bigSep_fupd _ _)

/-- On each device the counters at zero become cells of the exchange. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (exRd m) κ (kcell (c, j))))
          ∗ ((bigSep Finset.univ fun j : Fin 22 => atPos ER (kcell (c, j)) 0 ∅ 0) ∗ bigSep Finset.univ fun j : Fin 22 => reached ER (kcell (c, j)) 0) ∗ ownToks c) := by
  unfold G
  iintro ⟨Hos, Hus, Hst, Hrest⟩
  ihave Hv := (Entails.of_eq (sems0_eq (F := F) c).symm) $$ [Hos Hus]
  · isplitl [Hus] <;> iassumption
  imod (cells_alloc m c) $$ [Hv Hst] with Hinv
  · isplitl [Hv] <;> iassumption
  imodintro
  isplitl [Hinv] <;> iassumption

/-- What holds of each device beside the records holds of all of them. -/
theorem with_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells, regrouped as the records and each device's positions and duties. -/
theorem regroup :
    (bigSep Finset.univ fun c : Dev nD => iprop((bigSep Finset.univ fun j => iprop(∃ κ : ℕ, cellInv ER (exRd m) κ (kcell (c, j))))
          ∗ ((bigSep Finset.univ fun j : Fin 22 => atPos ER (kcell (c, j)) 0 ∅ 0) ∗ bigSep Finset.univ fun j : Fin 22 => reached ER (kcell (c, j)) 0) ∗ ownToks c) : sProp 𝕄)
      ⊢ bigSep Finset.univ (G' m) := by
  rw [bigSep_sep', bigSep_sep', bigSep_sep', toks_around, ← bigSep_univ_prod (fun ck : Dev nD × Fin 22 => iprop(∃ κ : ℕ, cellInv ER (exRd m) κ (kcell ck))),
    ← bigSep_univ_prod (fun ck : Dev nD × Fin 22 => (reached ER (kcell ck) 0 : sProp 𝕄))]
  iintro ⟨HI, ⟨Hat, #HR⟩, Htok⟩
  ihave HK := (BI.bigSep_exists_pi Finset.univ (fun (ck : Dev nD × Fin 22) (κ : ℕ) => (cellInv ER (exRd m) κ (kcell ck) : sProp 𝕄))) $$ HI
  icases HK with ⟨%K, #HI⟩
  iapply (with_records (R := records m K) (Φ := linear) fun c _ => show iprop(records m K ∗ linear c) ⊢ G' m c from by
    unfold G'; iintro H; iexists K; iexact H)
  isplitr
  · unfold records; isplitl; · iexact HI
    iexact HR
  · iapply (Entails.of_eq (show iprop((bigSep Finset.univ fun c : Dev nD => bigSep Finset.univ fun j : Fin 22 => atPos ER (kcell (c, j)) 0 ∅ 0)
        ∗ bigSep Finset.univ fun c : Dev nD => payToks c) = (bigSep Finset.univ fun c : Dev nD => linear c : sProp 𝕄) from by
          unfold linear; rw [bigSep_sep']))
    isplitl [Hat]; · iexact Hat
    iexact Htok

/-- Sharing every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the start -/

/-- What all the devices together owe cell `sm` of any one device. -/
def total (sm : SemLoc sig) (l : List ℕ) : ℕ := (l.map fun j => if sm = dueSem j then dueN j else 0).sum

/-- One of the dues before the exit, summed over the devices, reaches each device's counter once. -/
theorem due_total (c : Dev nD) (sm : SemLoc sig) (j : ℕ) (hj : dueLvl j < 5) :
    (∑ d : Dev nD, (tallyAt (dueCell j d) () (dueN j) : CellTallies nD τ sig Unit) ((c : Thread nD τ), sm) ()) = if sm = dueSem j then dueN j else 0 := by
  have h (d : Dev nD) : (tallyAt (dueCell j d) () (dueN j) : CellTallies nD τ sig Unit) ((c : Thread nD τ), sm) ()
      = if d = prt (dueLvl j) c then (if sm = dueSem j then dueN j else 0) else 0 := by
    rw [tallyAt_apply]
    by_cases h1 : d = prt (dueLvl j) c
    · rw [if_pos h1]
      have h2 : dueDev j d = c := by unfold dueDev; rw [h1]; exact prt_prt _ hj c
      by_cases h3 : sm = dueSem j
      · rw [if_pos h3, if_pos ⟨by unfold dueCell; rw [h2, h3], rfl⟩]
      · rw [if_neg h3, if_neg fun h => h3 (congrArg Prod.snd h.1)]
    · rw [if_neg h1, if_neg fun h => h1 ?_]
      have h2 : c = dueDev j d := congrArg (fun g : GSem nD τ sig => g.1.1) h.1
      rw [h2]; exact (prt_prt _ hj d).symm
  rw [Finset.sum_congr rfl fun d _ => h d, Finset.sum_ite_eq' Finset.univ (prt (dueLvl j) c), if_pos (Finset.mem_univ _)]

/-- So do any of them together. -/
theorem owe_total (c : Dev nD) (sm : SemLoc sig) : ∀ l : List ℕ, (∀ j ∈ l, dueLvl j < 5) →
    (∑ d : Dev nD, owe d l ((c : Thread nD τ), sm) ()) = total sm l
  | [], _ => Finset.sum_const_zero
  | j :: l, h => by
    have e (d : Dev nD) : owe d (j :: l) ((c : Thread nD τ), sm) () = owe d l ((c : Thread nD τ), sm) () + (tallyAt (dueCell j d) () (dueN j) : CellTallies nD τ sig Unit) ((c : Thread nD τ), sm) () := rfl
    rw [Finset.sum_congr rfl fun d _ => e d, Finset.sum_add_distrib, owe_total c sm l fun i hi => h i (List.mem_cons_of_mem _ hi), due_total c sm j (h j List.mem_cons_self)]
    unfold total; rw [List.map_cons, List.sum_cons, Nat.add_comm]

/-- So each counter starts with the credit that its devices owe it. -/
theorem launch_total (c : Dev nD) (sm : SemLoc sig) (n : ℕ) (h : total sm (List.range' 0 20) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← h]
  exact owe_total c sm _ (by decide +kernel)

/-- The credit device `c` starts with: five units at its barrier and at its exit, each transfer's at its receive. -/
theorem creds (c : Dev nD) :
    (Pipeline.launchCred O₀ c : sProp 𝕄) ⊢ iprop(cred (tallyAt ((c : Thread nD τ), .reg barS) () 5) ∗ cred (tallyAt ((c : Thread nD τ), .reg exS) () 5)
      ∗ bigSep Finset.univ fun t : Fin 10 => cred (tallyAt (rcvC t.val c) () (crN (sz (lvl t.val))))) := by
  have hB : total (.reg barS) (List.range' 0 20) = 5 := by decide +kernel
  have hX : total (.reg exS) (List.range' 0 20) = 5 := by decide +kernel
  have hR : ∀ t : Fin 10, total (.dma (rcvS t.val)) (List.range' 0 20) = crN (sz (lvl t.val)) := by decide +kernel
  unfold Pipeline.launchCred
  refine (bigSep_subset (Finset.subset_univ (Finset.univ.map ⟨csem, csem_injective⟩))).trans ?_
  rw [bigSep_map]
  refine (Entails.of_eq (bigSep_cells fun sm => cred (tallyOn ((c : Thread nD τ), sm) (launchCredit (Pipeline.owing O₀) 0 ((c : Thread nD τ), sm))))).trans ?_
  have hT : (bigSep Finset.univ fun t : Fin 10 => cred (tallyOn (rcvC t.val c) (launchCredit (Pipeline.owing O₀) 0 (rcvC t.val c))) : sProp 𝕄)
      = bigSep Finset.univ fun t : Fin 10 => cred (tallyAt (rcvC t.val c) () (crN (sz (lvl t.val)))) :=
    bigSep_congr fun t _ => congrArg cred (launch_total c _ _ (hR t))
  rw [launch_total c _ _ hB, launch_total c _ _ hX, hT]
  iintro ⟨HB, HX, -, HR⟩
  isplitl [HB]; · iexact HB
  isplitl [HX] <;> iassumption

end Cert.MoeProof

end
-- ==== Proof.Run.lean ====
/-
  The body run on every device, and the whole launch: from any memory with zero counters, every device ends with
  `OUT` in its result, its arguments as they were, and every counter at zero.
-/
module

public import proofs.«01_k».proof.Proof.Deal
public import Idealize.ShloMosaic.Lib.Pipeline.CollectiveSegs

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and runs of rows -/

/-- A run of rows is its first part and the rest, -/
theorem rws_add (R a n n' : ℕ) : rws R a (n + n') = rws R a n ∪ rws R (a + n) n' := by
  ext i; rw [Finset.mem_union, mem_rws, mem_rws, mem_rws]; omega
/-- which are apart. -/
theorem rws_add_disjoint (R a n n' : ℕ) : Disjoint (rws R a n) (rws R (a + n) n') := rws_disjoint (Or.inl (le_refl _))
/-- The receive buffer's rows are all of it. -/
theorem rws_com : rws 992 0 992 = Finset.univ := by
  ext i; rw [mem_rws]
  have h : (i 0).val < 992 := (i 0).isLt
  exact ⟨fun _ => Finset.mem_univ _, fun _ => by omega⟩

/-- The accumulator is the half that the device keeps and the half that it gives away. -/
theorem acc_whole (c : Dev nD) (f : Vec F S1024x512 .bf16) :
    (((c : Thread nD τ).loc cc0_scratch0 ↦{fullShare} f) : sProp 𝕄) ⊣⊢ iprop(accPts c (lo 1 c) (sz 0) fullShare f ∗ accPts c (lo 1 (prt 0 c)) (sz 0) fullShare f) := by
  have e : (((c : Thread nD τ).loc cc0_scratch0 ↦{fullShare} f) : sProp 𝕄) = accPts c (lo 0 c) (sz 0 + sz 0) fullShare f := by
    unfold accPts rowPts
    rw [rws_all, View.setOn_univ]
    simp only [Memref.view_whole, View.set_whole]
  rw [e]
  exact rowPts_union accM c (rws_split 0 (by decide) c) (rws_split_disjoint 0 (by decide) c) _ f

/-- The result is all of its rows, -/
theorem out_whole (c : Dev nD) (f : Vec F S1024x512 .f32) :
    (((c : Thread nD τ).loc cc0_stg5_0 ↦{fullShare} f) : sProp 𝕄) = outPts c (lo 0 c) (sz 0 + sz 0) f := by
  unfold outPts rowPts
  rw [rws_all, View.setOn_univ]
  simp only [Memref.view_whole, View.set_whole]

/-- and so is the receive buffer. -/
theorem com_whole (c : Dev nD) (f : Vec F S992x512 .bf16) :
    (((c : Thread nD τ).loc cc0_scratch1 ↦{fullShare} f) : sProp 𝕄) = comPts c 0 (512 + (256 + (128 + (64 + 32)))) f := by
  unfold comPts rowPts
  rw [show 512 + (256 + (128 + (64 + 32))) = 992 from rfl, rws_com, View.setOn_univ]
  simp only [Memref.view_whole, View.set_whole]

/-- A run of the receive buffer's rows held is its first part and the rest. -/
theorem com_add (c : Dev nD) (a n n' : ℕ) (f : Vec F S992x512 .bf16) :
    (comPts c a (n + n') f : sProp 𝕄) ⊣⊢ iprop(comPts c a n f ∗ comPts c (a + n) n' f) :=
  rowPts_union comM c (rws_add 992 a n n') (rws_add_disjoint 992 a n n') _ f

/-- Two neighbouring runs of rows, whatever each holds, are one run. -/
theorem com_join (c : Dev nD) (a n n' : ℕ) :
    iprop((∃ f, comPts c a n f) ∗ (∃ f, comPts c (a + n) n' f)) ⊢ (iprop(∃ f, comPts c a (n + n') f) : sProp 𝕄) := by
  iintro ⟨⟨%f, Hf⟩, ⟨%g, Hg⟩⟩
  let h : Vec F S992x512 .bf16 := fun x => if (x 0).val < a + n then f x else g x
  have e1 : (comPts c a n f : sProp 𝕄) = comPts c a n h := rowPts_congr comM c fun x hx => by
    rw [mem_rws] at hx
    exact (if_pos hx.2 : h x = f x).symm
  have e2 : (comPts c (a + n) n' g : sProp 𝕄) = comPts c (a + n) n' h := rowPts_congr comM c fun x hx => by
    rw [mem_rws] at hx
    exact (if_neg (Nat.not_lt.mpr hx.1) : h x = g x).symm
  iexists h
  iapply (com_add c a n n' h).2
  isplitl [Hf]; · iapply (Entails.of_eq e1); iexact Hf
  iapply (Entails.of_eq e2); iexact Hg

/-- The receive buffer is its five regions. -/
theorem com_split (c : Dev nD) :
    (iprop(∃ f : Vec F S992x512 .bf16, ((c : Thread nD τ).loc cc0_scratch1 ↦{fullShare} f)) : sProp 𝕄)
      ⊢ iprop(comE (F := F) c 0 ∗ comE (F := F) c 1 ∗ comE (F := F) c 2 ∗ comE (F := F) c 3 ∗ comE (F := F) c 4) := by
  iintro ⟨%f, H⟩
  ihave H := (Entails.of_eq (com_whole c f)) $$ H
  ihave H := (com_add c 0 512 _ f).1 $$ H
  icases H with ⟨H0, H⟩
  ihave H := (com_add c 512 256 _ f).1 $$ H
  icases H with ⟨H1, H⟩
  ihave H := (com_add c 768 128 _ f).1 $$ H
  icases H with ⟨H2, H⟩
  ihave H := (com_add c 896 64 _ f).1 $$ H
  icases H with ⟨H3, H⟩
  isplitl [H0]; · iexists f; iexact H0
  isplitl [H1]; · iexists f; iexact H1
  isplitl [H2]; · iexists f; iexact H2
  isplitl [H3]; · iexists f; iexact H3
  iexists f; iexact H

/-- The five regions make the receive buffer again. -/
theorem com_back (c : Dev nD) :
    iprop(comE (F := F) c 0 ∗ comE (F := F) c 1 ∗ comE (F := F) c 2 ∗ comE (F := F) c 3 ∗ comE (F := F) c 4)
      ⊢ (iprop(∃ f : Vec F S992x512 .bf16, ((c : Thread nD τ).loc cc0_scratch1 ↦{fullShare} f)) : sProp 𝕄) := by
  iintro ⟨H0, H1, H2, H3, H4⟩
  ihave H := (com_join (F := F) c 896 64 32) $$ [H3 H4]
  · isplitl [H3]; · iexact H3
    iexact H4
  ihave H := (com_join (F := F) c 768 128 96) $$ [H2 H]
  · isplitl [H2]; · iexact H2
    iexact H
  ihave H := (com_join (F := F) c 512 256 224) $$ [H1 H]
  · isplitl [H1]; · iexact H1
    iexact H
  ihave H := (com_join (F := F) c 0 512 480) $$ [H0 H]
  · isplitl [H0]; · iexact H0
    iexact H
  icases H with ⟨%f, H⟩
  iexists f
  iapply (Entails.of_eq (com_whole c f).symm)
  iexact H

/-! ## The state between the steps of the launch -/

/-- What device `c` starts with, its buffers apart. -/
def start (c : Dev nD) : sProp 𝕄 :=
  iprop(G' m c ∗ (cred (tallyAt ((c : Thread nD τ), .reg barS) () 5) ∗ cred (tallyAt ((c : Thread nD τ), .reg exS) () 5)
      ∗ bigSep Finset.univ fun t : Fin 10 => cred (tallyAt (rcvC t.val c) () (crN (sz (lvl t.val))))) ∗ levAts L lv)

/-- The accumulator, whatever it holds, -/
def accAny (c : Dev nD) : sProp 𝕄 := iprop(∃ f : Vec F S1024x512 .bf16, ((c : Thread nD τ).loc cc0_scratch0 ↦{fullShare} f))
/-- and the receive buffer. -/
def comAny (c : Dev nD) : sProp 𝕄 := iprop(∃ f : Vec F S992x512 .bf16, ((c : Thread nD τ).loc cc0_scratch1 ↦{fullShare} f))

/-- Before the body. -/
def Φ₀ (c : Dev nD) : sProp 𝕄 := iprop(start m c ∗ accAny (F := F) c ∗ comAny (F := F) c)
/-- After the body: every counter at zero again. -/
def Φ₁ (c : Dev nD) : sProp 𝕄 := iprop((accAny (F := F) c ∗ comAny (F := F) c) ∗ bigSep Finset.univ fun j : Fin 22 => semVal (kcell (c, j)) 0)

/-- The launch: what each window holds after the body, and what the device holds and owes before and after. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xV m c
    | ⟨1, _⟩ => wrV m c
    | ⟨2, _⟩ => ixV m c
    | ⟨3, _⟩ => exV m c
    | ⟨4, _⟩ => shV m c
    | ⟨5, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body on the launch's terms -/

/-- The start's pieces are what the body runs from. -/
theorem pre_intro (c : Dev nD) (f : Vec F S1024x512 .f32) :
    iprop(owesS c 0 ∗ linear c ∗ (cred (tallyAt ((c : Thread nD τ), .reg barS) () 5) ∗ cred (tallyAt ((c : Thread nD τ), .reg exS) () 5)
          ∗ bigSep Finset.univ fun t : Fin 10 => cred (tallyAt (rcvC t.val c) () (crN (sz (lvl t.val)))))
        ∗ accAny (F := F) c ∗ comAny (F := F) c ∗ ((c : Thread nD τ).loc cc0_stg5_0 ↦{fullShare} f) ∗ insP m c)
      ⊢ bodyPre m c := by
  have hR : iprop((bigSep Finset.univ fun t : Fin 10 => dutyTok ER (sndC t.val c) 0 (0 : Fin 5))
        ∗ (bigSep Finset.univ fun t : Fin 10 => dutyTok ER (rcvC t.val (prt (lvl t.val) c)) 0 (0 : Fin 5))
        ∗ (bigSep Finset.univ fun t : Fin 10 => cred (tallyAt (rcvC t.val c) () (crN (sz (lvl t.val)))))
        ∗ (bigSep Finset.univ fun t : Fin 10 => atPos ER (sndC t.val c) 0 ∅ 0)
        ∗ bigSep Finset.univ fun t : Fin 10 => atPos ER (rcvC t.val c) 0 ∅ 0)
      = (bigSep Finset.univ fun t : Fin 10 => stepRes c t.val : sProp 𝕄) := by
    unfold stepRes; rw [bigSep_sep', bigSep_sep', bigSep_sep', bigSep_sep']
  unfold linear payToks accAny bodyPre
  rw [← bigSep_five (fun k => tokB c k), ← bigSep_five (fun k => tokX c k), ← bigSep_ten (fun t => stepRes c t), ← hR]
  iintro ⟨HO, ⟨Hat, HtB, HtX, HtS, HtR⟩, ⟨HcB, HcX, HcR⟩, ⟨%fa, Ha⟩, Hc, Ho, Hin⟩
  ihave Hat := (Entails.of_eq (bigSep_cells fun sm => (atPos ER ((c : Thread nD τ), sm) 0 ∅ 0 : sProp 𝕄))) $$ Hat
  icases Hat with ⟨HaB, HaX, HaS, HaR⟩
  ihave Ha := (acc_whole c fa).1 $$ Ha
  icases Ha with ⟨Ha1, Ha2⟩
  ihave Hc := (com_split (F := F) c) $$ [Hc]
  · unfold comAny; iexact Hc
  isplitl [HO]; · iexact HO
  isplitl [HtB]; · iexact HtB
  isplitl [HtX]; · iexact HtX
  isplitl [HtS HtR HcR HaS HaR]
  · isplitl [HtS]; · iexact HtS
    isplitl [HtR]; · iexact HtR
    isplitl [HcR]; · iexact HcR
    isplitl [HaS] <;> iassumption
  isplitl [HcB HaB]
  · isplitl [HcB] <;> iassumption
  isplitl [HcX HaX]
  · isplitl [HcX] <;> iassumption
  isplitl [Hc]; · iexact Hc
  isplitl [Ha1]; · iexists fa; iexact Ha1
  isplitl [Ha2]; · iexists fa; iexact Ha2
  isplitl [Ho]; · iexists f; iapply (Entails.of_eq (out_whole c f)); iexact Ho
  iexact Hin

/-- A device's finished cells close: the counters are its own again, at zero. -/
theorem cells_close (K : Dev nD × Fin 22 → ℕ) (c : Dev nD) :
    iprop(records m K ∗ bigSep Finset.univ fun j : Fin 22 => atPos ER (kcell (c, j)) 1 ∅ 0)
      ⊢ (|={Set.univ}=> bigSep Finset.univ fun j : Fin 22 => semVal (kcell (c, j)) 0 : sProp 𝕄) := by
  have h1 : ∀ j ∈ (Finset.univ : Finset (Fin 22)), iprop(records m K ∗ atPos ER (kcell (c, j)) 1 ∅ 0) ⊢ (|={Set.univ}=> semVal (kcell (c, j)) 0 : sProp 𝕄) := fun j _ => by
    unfold records
    iintro ⟨⟨#HI, -⟩, Hat⟩
    ihave Hc := (inv_all m K (c, j)) $$ HI
    iapply (Rounds.cell_close ER (exRd m) (Set.mem_univ (K (c, j))) (fun h => h) (R := 0 + 1) (duties_later m inferInstance (kcell (c, j))))
    isplitl [Hc]; · iexact Hc
    iexact Hat
  refine ((sep_mono_left (BI.bigSep_of_persistent (Finset.univ : Finset (Fin 22)) (records m K))).trans ?_).trans (bigSep_fupd (Finset.univ : Finset (Fin 22)) _)
  rw [← bigSep_sep']
  exact bigSep_mono h1

/-- What the body ends with, its cells closed, is the state after it. -/
theorem post_elim (K : Dev nD × Fin 22 → ℕ) (c : Dev nD) :
    iprop(records m K ∗ bodyPost m c)
      ⊢ (|={Set.univ}=> iprop(Φ₁ c ∗ owesS c 20 ∗ ((c : Thread nD τ).loc cc0_stg5_0 ↦{fullShare} OUT m c) ∗ insP m c) : sProp 𝕄) := by
  have hS : (bigSep Finset.univ fun t : Fin 10 => stepDone c t.val : sProp 𝕄)
      = iprop((bigSep Finset.univ fun t : Fin 10 => atPos ER (sndC t.val c) 1 ∅ 0) ∗ bigSep Finset.univ fun t : Fin 10 => atPos ER (rcvC t.val c) 1 ∅ 0) := by
    unfold stepDone; rw [bigSep_sep']
  unfold bodyPost
  rw [← bigSep_ten (fun t => stepDone c t), hS]
  iintro ⟨#HR, HO, HaB, HaX, ⟨HaS, HaR⟩, ⟨Hc0, Hc1, Hc2, Hc3, Hc4⟩, Ha1, Ha2, Ho1, Ho2, Hin⟩
  imod (cells_close m K c) $$ [HaB HaX HaS HaR] with Hz
  · isplitr; · iexact HR
    iapply (Entails.of_eq (bigSep_cells fun sm => (atPos ER ((c : Thread nD τ), sm) 1 ∅ 0 : sProp 𝕄)).symm)
    isplitl [HaB]; · iexact HaB
    isplitl [HaX]; · iexact HaX
    isplitl [HaS] <;> iassumption
  ihave Hc := (com_back (F := F) c) $$ [Hc0 Hc1 Hc2 Hc3 Hc4]
  · isplitl [Hc0]; · iexists _; iexact Hc0
    isplitl [Hc1]; · iexists _; iexact Hc1
    isplitl [Hc2]; · iexists _; iexact Hc2
    isplitl [Hc3]; · iexists _; iexact Hc3
    iexists _; iexact Hc4
  ihave Ha := (acc_whole c (FIN m)).2 $$ [Ha1 Ha2]
  · isplitl [Ha1] <;> iassumption
  ihave Ho := (out_split c (OUT m c)).2 $$ [Ho1 Ho2]
  · isplitl [Ho1] <;> iassumption
  ihave Ho := (Entails.of_eq (out_whole c (OUT m c)).symm) $$ Ho
  imodintro
  unfold Φ₁ accAny comAny
  isplitl [Ha Hc Hz]
  · isplitl [Ha Hc]
    · isplitl [Ha]; · iexists _; iexact Ha
      iexact Hc
    iexact Hz
  isplitl [HO]; · iexact HO
  isplitl [Ho] <;> iassumption

/-- To own a whole array is to hold its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body between the states of the launch. -/
def obPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- What the body must leave. -/
def obPost (c : Dev nD) : sProp 𝕄 :=
  iprop(Φ₁ c ∗ (dats m ρ 0 c).owesAt () t0_0.succ ∗ stg c cc0_stg0_0 (xV m c) ∗ stg c cc0_stg1_0 (wrV m c) ∗ stg c cc0_stg2_0 (ixV m c)
    ∗ stg c cc0_stg3_0 (exV m c) ∗ stg c cc0_stg4_0 (shV m c) ∗ stg c cc0_stg5_0 (OUT m c))

/-- What the launch hands the body is what the body starts from; -/
theorem obPre_elim (c : Dev nD) :
    obPre m ρ c ⊢ iprop(∃ K, env m K ∗ bodyPre m c) := by
  unfold obPre Φ₀ start G'
  iintro ⟨⟨⟨⟨%K, #HR, Hlin⟩, Hcr, #Hlev⟩, Ha, Hc⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xV m c := by rw [h0]; unfold Pipeline.Dat.before; rw [if_pos (fetch0_0 t0_0)]; rfl
  have e1 : g1 = wrV m c := by rw [h1]; unfold Pipeline.Dat.before; rw [if_pos (fetch0_1 t0_0)]; rfl
  have e2 : g2 = ixV m c := by rw [h2]; unfold Pipeline.Dat.before; rw [if_pos (fetch0_2 t0_0)]; rfl
  have e3 : g3 = exV m c := by rw [h3]; unfold Pipeline.Dat.before; rw [if_pos (fetch0_3 t0_0)]; rfl
  have e4 : g4 = shV m c := by rw [h4]; unfold Pipeline.Dat.before; rw [if_pos (fetch0_4 t0_0)]; rfl
  subst e0 e1 e2 e3 e4
  unfold Pipeline.Dat.owesAt Pipeline.owesWithin
  icases Ho with ⟨%W, %hW, HO⟩
  iexists K
  isplitr
  · unfold env; isplitl; · iexact HR
    iexact Hlev
  iapply (pre_intro m c g5)
  isplitl [HO]; · unfold owesS; iexists W; iexact HO
  isplitl [Hlin]; · iexact Hlin
  isplitl [Hcr]; · iexact Hcr
  isplitl [Ha]; · iexact Ha
  isplitl [Hc]; · iexact Hc
  isplitl [H5]; · iexact H5
  unfold insP
  isplitl [H0]; · iexact H0
  isplitl [H1]; · iexact H1
  isplitl [H2]; · iexact H2
  isplitl [H3] <;> iassumption

/-- what the body ends with is what it must leave; -/
theorem obPost_intro (c : Dev nD) :
    iprop(Φ₁ c ∗ owesS c 20 ∗ ((c : Thread nD τ).loc cc0_stg5_0 ↦{fullShare} OUT m c) ∗ insP m c) ⊢ obPost m ρ c := by
  unfold owesS obPost insP Pipeline.Dat.owesAt Pipeline.owesWithin
  iintro ⟨HΦ, ⟨%W, HO⟩, H5, H0, H1, H2, H3, H4⟩
  isplitl [HΦ]; · iexact HΦ
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-- and the body goes from the one to the other. -/
theorem fupd_wp_body (c : Dev nD) :
    obPre m ρ c ⊢ WP c (cc0_body (F := F) xM (Memref.isWhole_whole _) wrM (Memref.isWhole_whole _) ixM (Memref.isWhole_whole _) exM (Memref.isWhole_whole _) shM (Memref.isWhole_whole _) outM (Memref.isWhole_whole _) accM (Memref.isWhole_whole _) comM (Memref.isWhole_whole _) cc0_scratch2 cc0_scratch3 cc0_scratch4) (fun _ => obPost m ρ c) := by
  iintro H
  ihave H := (obPre_elim m ρ c) $$ H
  icases H with ⟨%K, #He, Hp⟩
  iapply (wp_fupd _ _ _ _ _)
  iapply (body_wp m K c) $$ [Hp]
  · isplitr; · iexact He
    iexact Hp
  iintro Hb
  imod (post_elim m K c) $$ [Hb] with H
  · isplitr; · unfold env; icases He with ⟨HR, -⟩; iexact HR
    iexact Hb
  imodintro
  iapply (obPost_intro m ρ c)
  iexact H

/-- The launch's demand on the body, met on every device. -/
theorem body_obligation (c : Dev nD) : Pipeline.BodyObligation (dats (F := F) m ρ 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  exact fupd_wp_body m ρ c

/-! ## The launch -/

/-- Every window's array is held whole. -/
theorem share_eq (c : Dev nD) (w : Fin cfg0.W) : (dats m ρ 0 c).share w = fullShare := by unfold Pipeline.Dat.share; split <;> rfl

/-- The device's resources at launch are its start, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- which with the scratch arrays is the state before the body. -/
theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Ha, Hc⟩
  isplitl [Hs]; · iexact Hs
  isplitl [Ha]; · unfold accAny; iexact Ha
  unfold comAny; iexact Hc

/-- The state after the body gives the counters and scratch arrays back. -/
theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ accAny comAny
  iintro ⟨Hs, Hz⟩
  ihave Hz := (Entails.of_eq (sems0_eq (F := F) c)) $$ Hz
  icases Hz with ⟨Hu, Ho⟩
  isplitl [Hu]; · iexact Hu
  isplitl [Ho] <;> iassumption

/-- A staging semaphore lies below everything a device owes. -/
theorem stage_low : ∀ (w : Fin cfg0.W) (s : Fin (cfg0.win w).nbuf), lvS (.dma ((cfg0.win w).sem s)) = 0 := by
  intro w s; fin_cases w <;> fin_cases s <;> decide

/-- The staging's waits come before everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 0 20 fun j hj => ?_
      rw [stage_low w s]
      exact (by decide +kernel : ∀ j ∈ List.range' 0 20, 0 < lvS (dueSem j)) j hj
    · rw [show (dats m ρ 0 c).owed ⟨_ + 1, ht⟩ = O c 20 0 from rfl]
      exact mayWait c _ 20 0 fun j hj => absurd hj (List.not_mem_nil)

/-- What array `w` of device `c` holds at the end. -/
def finalA (c : Dev nD) (w : Fin cfg0.W) : Buf (Elt F) ((cfg0.win w).arr.view.loc (c : Thread nD τ)) := (dats m ρ 0 c).arrAt w cfg0.N

/-- Every array of every device is as the launch leaves it. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair run on the 32 devices ends, every
    device's arrays hold the computed contents, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeProof

end
-- ==== Proof.Frames.lean ====
/-
  What the runs say of the arguments and of the counters: the three frames.
-/
module

public import proofs.«01_k».proof.Proof.Run
public import proofs.«01_k».proof.Proof.Gen.ReferenceIdeal.Run
public import proofs.«01_k».proof.Defs
public import proofs.«01_k».proof.Proof.Gen.Kernel
public import Idealize.ShloMosaic.Adequacy

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- An input array of device `c` ends as it was. -/
theorem final_in (c : Dev nD) (w : Fin cfg0.W) (h : (cfg0.win w).isOut = false) :
    finalA m ρ c w = m ((cfg0.win w).arr.view.loc (c : Thread nD τ)) := (dats (F := F) m ρ 0 c).arrAt_in w h _

/-- Every device's arguments are as they were. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c (0 : Fin 6)).trans (final_in m ρ c (0 : Fin 6) rfl), (h c (1 : Fin 6)).trans (final_in m ρ c (1 : Fin 6) rfl), (h c (2 : Fin 6)).trans (final_in m ρ c (2 : Fin 6) rfl),
    (h c (3 : Fin 6)).trans (final_in m ρ c (3 : Fin 6) rfl), (h c (4 : Fin 6)).trans (final_in m ρ c (4 : Fin 6) rfl)⟩

/-- For any float values the program runs, leaves its arguments and ends with its counters at zero. -/
theorem frame_any : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run Cert.KernelIdeal.defs _ _).mono (fun _ h => ⟨args_kept m ρ h.1, h.2⟩) (run_main m ρ)

/-- The kernel and its ideal reading have the same bodies, -/
theorem bodies_eq : (Cert.Kernel.defs₀ (F := F)) = Cert.KernelIdeal.defs₀ (F := F) :=
  congrArg Defs.onTc (funext fun l => by
    match l with
    | 0 => exact funext fun ⟨t, s⟩ => rfl
    | ⟨_ + 1, h⟩ => exact absurd h (Nat.not_lt.2 (Nat.le_add_left _ _)))
/-- so the same table of functions. -/
theorem table_eq : (Cert.Kernel.defs (F := F)) = Cert.KernelIdeal.defs (F := F) := congrArg (Pipeline.defs (Cert.KernelIdeal.pcfgs (F := F))) bodies_eq

/-- The kernel's frame. -/
theorem frame_kernel : Cert.quiescent_Kernel := fun m ρ _ => by
  rw [table_eq]
  exact frame_any (F := Bits) m ρ

/-- The frame of its ideal reading. -/
theorem frame_ideal : Cert.quiescent_KernelIdeal := fun m ρ _ => frame_any (F := Ideal) m ρ

/-- So does the reference, which has no counters. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.MoeProof

end
-- ==== Proof.Maths.lean ====
/-
  The mathematics both programs share, row by row, on the extended reals: a token's scores against the experts, their
  softmax, one expert's product with the token, and the token's result. Beside it, the layout operations and the sums
  that either program is read through.
-/
module

public import Idealize.ShloMosaic.Lib.KernelVsHost
public import Idealize.ShloMosaic.Lib.MatmulPlain
public import Idealize.ShloMosaic.Lib.IdealHost

@[expose] public section

noncomputable section

namespace Cert.MoeProof

open Idealize.ShloMosaic Idealize.ShloMosaic.ValueIdx

/-! ## One token -/

/-- The token's score for an expert: its product with the router's column. -/
def score (a : Fin 256 → EReal) (w : Fin 256 → Fin 128 → EReal) (k : Fin 128) : EReal := ∑ d, a d * w d k

/-- The exponential of a score, less the token's greatest. -/
def expo (s : Fin 128 → EReal) (k : Fin 128) : EReal :=
  Ideal.exp (s k - Finset.univ.fold max (Ideal.ofBits .f32 0xFF800000#32) s)

/-- The softmax of the scores. -/
def soft (s : Fin 128 → EReal) (k : Fin 128) : EReal := Ideal.div (expo s k) (∑ k', expo s k')

/-- The token's product with one expert's weights. -/
def line (a : Fin 256 → EReal) (u : Fin 256 → Fin 512 → EReal) (f : Fin 512) : EReal := ∑ d, a d * u d f

/-- The weight of the token's own expert: the softmax there, and zero when the index names no expert. -/
def gate (p : Fin 128 → EReal) (z : BitVec 32) : EReal := if h : z.toNat < 128 then p ⟨z.toNat, h⟩ else 0

/-- The sum of a row with everything but one lane masked out is that lane, or zero when the word names no lane. -/
theorem sum_masked (p : Fin 128 → EReal) (z : BitVec 32) :
    ∑ k : Fin 128, (if BitVec.ofNat 32 k.val = z then p k else 0) = gate p z := by
  have hk : ∀ k : Fin 128, (BitVec.ofNat 32 k.val).toNat = k.val := fun k => by
    rw [BitVec.toNat_ofNat]; have := k.isLt; omega
  unfold gate
  split
  · rename_i h
    rw [Finset.sum_eq_single (⟨z.toNat, h⟩ : Fin 128)]
    · rw [if_pos (BitVec.eq_of_toNat_eq (hk _))]
    · intro k _ hne
      refine if_neg fun he => hne (Fin.ext ?_)
      show k.val = z.toNat
      rw [← he, hk]
    · exact fun hn => absurd (Finset.mem_univ _) hn
  · rename_i h
    refine Finset.sum_eq_zero fun k _ => if_neg fun he => h ?_
    rw [← he, hk]; exact k.isLt

/-! ## Layout operations at an index -/

section Layout
variable {α : Type} {n k : ℕ}

/-- A vector cast to a column, read at a row. -/
theorem cast_col (v : (⟨1, ![n]⟩ : Shape).Idx → α) (h : (⟨1, ![n]⟩ : Shape).ShapeCasts ⟨2, ![n, 1]⟩) (r : Fin n) (c : Fin 1) :
    shapeCast ⟨2, ![n, 1]⟩ v h (ix2 r c) = v (ix1 r) := by
  refine shapeCast_apply v h _ _ ?_
  rw [Shape.rowMajor_val_one, Shape.rowMajor_val_two]
  show r.val = r.val * 1 + c.val
  omega

/-- A column cast to a vector, read at a row. -/
theorem cast_vec (v : (⟨2, ![n, 1]⟩ : Shape).Idx → α) (h : (⟨2, ![n, 1]⟩ : Shape).ShapeCasts ⟨1, ![n]⟩) (r : Fin n) :
    shapeCast ⟨1, ![n]⟩ v h (ix1 r) = v (ix2 r 0) := by
  refine shapeCast_apply v h _ _ ?_
  rw [Shape.rowMajor_val_one, Shape.rowMajor_val_two]
  show r.val * 1 + 0 = r.val
  omega

/-- A column cast to a column of unit lines, read at a row. -/
theorem cast_col₃ (v : (⟨2, ![n, 1]⟩ : Shape).Idx → α) (h : (⟨2, ![n, 1]⟩ : Shape).ShapeCasts ⟨3, ![n, 1, 1]⟩) (r : Fin n) (c d : Fin 1) :
    shapeCast ⟨3, ![n, 1, 1]⟩ v h (ix3 r c d) = v (ix2 r 0) := by
  refine shapeCast_apply v h _ _ ?_
  rw [Shape.rowMajor_val_two, Shape.rowMajor_val_three]
  show r.val * 1 + 0 = (r.val * 1 + c.val) * 1 + d.val
  omega

/-- A column spread along the rows, read at an entry. -/
theorem spread_col (v : (⟨2, ![n, 1]⟩ : Shape).Idx → α) (h : (⟨2, ![n, 1]⟩ : Shape).Broadcasts ⟨2, ![n, k]⟩) (r : Fin n) (c : Fin k) :
    broadcastTo ⟨2, ![n, k]⟩ v h (ix2 r c) = v (ix2 r 0) := by
  refine broadcastTo_apply v h _ _ fun a => ?_
  match a with
  | ⟨0, _⟩ =>
    show r.val = if n = 1 then 0 else r.val
    have := r.isLt
    split <;> omega
  | ⟨1, _⟩ => rfl

/-- The host's spread of a column along the rows, read at an entry. -/
theorem host_spread_col (v : (⟨2, ![n, 1]⟩ : Shape).Idx → α) (h : (⟨2, ![n, 1]⟩ : Shape).BroadcastsInDim ⟨2, ![n, k]⟩ ![0, 1])
    (r : Fin n) (c : Fin k) : broadcastInDim ⟨2, ![n, k]⟩ ![0, 1] h v (ix2 r c) = v (ix2 r 0) := by
  refine broadcastInDim_apply _ h v _ _ fun a => ?_
  match a with
  | ⟨0, _⟩ =>
    show r.val = if n = 1 then 0 else r.val
    have := r.isLt
    split <;> omega
  | ⟨1, _⟩ => rfl

/-- The host's column of a vector, read at a row. -/
theorem host_col (v : (⟨1, ![n]⟩ : Shape).Idx → α) (h : (⟨1, ![n]⟩ : Shape).BroadcastsInDim ⟨2, ![n, 1]⟩ ![0])
    (r : Fin n) (c : Fin 1) : broadcastInDim ⟨2, ![n, 1]⟩ ![0] h v (ix2 r c) = v (ix1 r) := by
  refine broadcastInDim_apply _ h v _ _ fun a => ?_
  match a with
  | ⟨0, _⟩ =>
    show r.val = if n = 1 then 0 else r.val
    have := r.isLt
    split <;> omega

end Layout

/-! ## The softmax as a kernel and as the host compute it -/

section Softmax
variable {n : ℕ}

/-- The kernel's maximum of a row, laid out as a column and spread. -/
theorem max_spread (v : FVec Ideal ⟨2, ![n, 128]⟩ .f32) (hr : (⟨2, ![n, 128]⟩ : Shape).Reduces [1] ⟨1, ![n]⟩)
    (hφ : FKind.Formats .f32) (ha : (0xFF800000#32 : BitVec 32) = FKind.maximumf.neutral .f32 hφ)
    (hs : (⟨1, ![n]⟩ : Shape).ShapeCasts ⟨2, ![n, 1]⟩) (hb : (⟨2, ![n, 1]⟩ : Shape).Broadcasts ⟨2, ![n, 128]⟩) (r : Fin n) (k : Fin 128) :
    broadcastTo ⟨2, ![n, 128]⟩ (shapeCast ⟨2, ![n, 1]⟩ (multiReduction .maximumf [1] ⟨1, ![n]⟩ v 0xFF800000#32 hr hφ ha) hs) hb (ix2 r k)
      = Finset.univ.fold max (Ideal.ofBits .f32 0xFF800000#32) fun k' : Fin 128 => v (ix2 r k') := by
  rw [spread_col, cast_col, Ideal.multiReduction_maximumf_single]
  refine Finset.fold_congr fun k' _ => congrArg v ?_
  exact eq_ix2 _

/-- The kernel's sum of a row, laid out as a column. -/
theorem add_col (v : FVec Ideal ⟨2, ![n, 128]⟩ .f32) (hr : (⟨2, ![n, 128]⟩ : Shape).Reduces [1] ⟨1, ![n]⟩)
    (hφ : FKind.Formats .f32) (ha : (0x00000000#32 : BitVec 32) = FKind.add.neutral .f32 hφ)
    (hs : (⟨1, ![n]⟩ : Shape).ShapeCasts ⟨2, ![n, 1]⟩) (r : Fin n) (c : Fin 1) :
    shapeCast ⟨2, ![n, 1]⟩ (multiReduction .add [1] ⟨1, ![n]⟩ v 0x00000000#32 hr hφ ha) hs (ix2 r c)
      = ∑ k' : Fin 128, v (ix2 r k') := by
  rw [cast_col, Ideal.multiReduction_add_single]
  refine Finset.sum_congr rfl fun k' _ => congrArg v ?_
  exact eq_ix2 _

/-- The host's maximum of a row, laid out as a column and spread. -/
theorem host_max_spread {u : Shape} (v : FVec Ideal ⟨2, ![n, 128]⟩ .f32) (hr : (⟨2, ![n, 128]⟩ : Shape).ReducesTo [1] ⟨1, ![n]⟩)
    (hk : (⟨2, ![n, 128]⟩ : Shape).Reduces [1] ⟨1, ![n]⟩) (hu : 0 < u.numel)
    (hs : (⟨1, ![n]⟩ : Shape).BroadcastsInDim ⟨2, ![n, 1]⟩ ![0]) (hb : (⟨2, ![n, 1]⟩ : Shape).BroadcastsInDim ⟨2, ![n, 128]⟩ ![0, 1])
    (r : Fin n) (k : Fin 128) :
    broadcastInDim ⟨2, ![n, 128]⟩ ![0, 1] hb (broadcastInDim ⟨2, ![n, 1]⟩ ![0] hs
        (Host.reduce FloatOps.maximumf v (constant u .f32 0xFF800000#32) hr hu)) (ix2 r k)
      = Finset.univ.fold max (Ideal.ofBits .f32 0xFF800000#32) fun k' : Fin 128 => v (ix2 r k') := by
  rw [host_spread_col, host_col, Host.reduce_eq_fold_single _ _ _ hr hk hu]
  refine Finset.fold_congr fun k' _ => congrArg v ?_
  exact eq_ix2 _

/-- The host's sum of a row, laid out as a column and spread. -/
theorem host_add_spread {u : Shape} (v : FVec Ideal ⟨2, ![n, 128]⟩ .f32) (hr : (⟨2, ![n, 128]⟩ : Shape).ReducesTo [1] ⟨1, ![n]⟩)
    (hk : (⟨2, ![n, 128]⟩ : Shape).Reduces [1] ⟨1, ![n]⟩) (hu : 0 < u.numel)
    (hs : (⟨1, ![n]⟩ : Shape).BroadcastsInDim ⟨2, ![n, 1]⟩ ![0]) (hb : (⟨2, ![n, 1]⟩ : Shape).BroadcastsInDim ⟨2, ![n, 128]⟩ ![0, 1])
    (r : Fin n) (k : Fin 128) :
    broadcastInDim ⟨2, ![n, 128]⟩ ![0, 1] hb (broadcastInDim ⟨2, ![n, 1]⟩ ![0] hs
        (Host.reduceAdd v (constant u .f32 0x00000000#32) hr hu)) (ix2 r k)
      = ∑ k' : Fin 128, v (ix2 r k') := by
  rw [host_spread_col, host_col, hostReduceAdd_apply, Ideal.hostReduceAdd_single hr hk, constant_apply, Ideal.ofBits_zero_f32, zero_add]
  refine Finset.sum_congr rfl fun k' _ => congrArg v ?_
  exact eq_ix2 _

end Softmax

/-! ## Sums over groups -/

/-- Four picks, one of each index of a group of four, over all 32 groups: only the group and the place of the index
    itself count. -/
theorem sum_picks (z : BitVec 32) (g : EReal) (y : Fin 32 → Fin 4 → EReal) (e : Fin 32 → Fin 4 → BitVec 32)
    (he : ∀ d j, e d j = BitVec.ofNat 32 (4 * d.val + j.val)) :
    ∑ d : Fin 32, ∑ j : Fin 4, (if z = e d j then g else 0) * y d j
      = if h : z.toNat < 128 then g * y ⟨z.toNat / 4, by omega⟩ ⟨z.toNat % 4, by omega⟩ else 0 := by
  have hk : ∀ (d : Fin 32) (j : Fin 4), (e d j).toNat = 4 * d.val + j.val := fun d j => by
    rw [he, BitVec.toNat_ofNat]; have := d.isLt; have := j.isLt; omega
  have hz : ∀ (d : Fin 32) (j : Fin 4), z = e d j → z.toNat = 4 * d.val + j.val := fun d j h => by rw [h, hk]
  split
  · rename_i h
    rw [Finset.sum_eq_single (⟨z.toNat / 4, by omega⟩ : Fin 32), Finset.sum_eq_single (⟨z.toNat % 4, by omega⟩ : Fin 4)]
    · rw [if_pos (BitVec.eq_of_toNat_eq (by rw [hk]; show z.toNat = 4 * (z.toNat / 4) + z.toNat % 4; omega))]
    · intro j _ hne
      rw [if_neg, zero_mul]
      intro hh
      have := hz _ _ hh
      have := j.isLt
      exact hne (Fin.ext (by show j.val = z.toNat % 4; omega))
    · exact fun hn => absurd (Finset.mem_univ _) hn
    · intro d _ hne
      refine Finset.sum_eq_zero fun j _ => ?_
      rw [if_neg, zero_mul]
      intro hh
      have := hz _ _ hh
      have := j.isLt
      exact hne (Fin.ext (by show d.val = z.toNat / 4; omega))
    · exact fun hn => absurd (Finset.mem_univ _) hn
  · rename_i h
    refine Finset.sum_eq_zero fun d _ => Finset.sum_eq_zero fun j _ => ?_
    rw [if_neg, zero_mul]
    intro hh
    have := hz _ _ hh
    have := d.isLt
    have := j.isLt
    omega

end Cert.MoeProof

end
-- ==== Proof.Value.lean ====
/-
  The kernel's result on the extended reals, entry by entry: each device's partial result is the sum of its four
  experts' products, each counted for the tokens that name the expert, and the reduction's rows add up all devices'.
-/
module

public import proofs.«01_k».proof.Proof.Run
public import proofs.«01_k».proof.Proof.Maths

@[expose] public section

set_option maxRecDepth 16384

noncomputable section

namespace Cert.MoeProof

open Cert.KernelIdeal Cert.KernelIdeal.Gen
open Idealize.ShloMosaic Idealize.ShloMosaic.TcCoe Idealize.ShloMosaic.ValueIdx

/-! ## The operations of a half -/

/-- A choice by equality of words. -/
theorem select_eq {α : Type} (x y : BitVec 32) (a b : α) : Scalar.select (IntOp.cmpi .eq x y) a b = if x = y then a else b := by
  unfold IntOp.cmpi
  by_cases h : x = y
  · subst h; simp [Scalar.select]
  · have hb : (x == y) = false := beq_false_of_ne h
    simp [Scalar.select, h, hb]

/-- The product of a half's tokens with the router, at an entry. -/
theorem route_apply (a : FVec Ideal S512x256 .bf16) (w : FVec Ideal S256x128 .bf16) (r : Fin 512) (k : Fin 128) :
    matmul dot_S512x256_S256x128_S512x128_1_0_0_1_n_n none a w (constant S512x128 .f32 0x00000000#32) (ix2 r k)
      = score (fun d => a (ix2 r d)) (fun d k => w (ix2 d k)) k := by
  refine (Ideal.matmul_plain_apply (M := 512) (K := 256) (N := 128) none a w _ r k).trans ?_
  rw [constant_apply, Ideal.ofBits_zero_f32, zero_add]
  rfl

/-- The product of a half's tokens with an expert's weights, at an entry. -/
theorem expert_apply (a : FVec Ideal S512x256 .bf16) (w : FVec Ideal S1x256x512 .bf16) (r : Fin 512) (f : Fin 512) :
    matmul dot_S512x256_S256x512_S512x512_1_0_0_1_n_n none a (shapeCast S256x512 w shapeCasts_S1x256x512_S256x512) (constant S512x512 .f32 0x00000000#32) (ix2 r f)
      = line (fun d => a (ix2 r d)) (fun d f => w (ix3 0 d f)) f := by
  refine (Ideal.matmul_plain_apply (M := 512) (K := 256) (N := 512) none a _ _ r f).trans ?_
  rw [constant_apply, Ideal.ofBits_zero_f32, zero_add]
  unfold line
  refine Finset.sum_congr rfl fun d _ => congrArg (a (ix2 r d) * ·) ?_
  refine (shapeCast_dropUnit_apply ![256, 512] w _ (ix2 d f)).trans (congrArg w ?_)
  funext q
  match q with
  | ⟨0, _⟩ => rfl
  | ⟨1, _⟩ => rfl
  | ⟨2, _⟩ => rfl

/-- The exponentials of a half's scores, at an entry. -/
theorem expo_apply (v : FVec Ideal S512x128 .f32) (hr : S512x128.Reduces [1] S512) (hφ : FKind.Formats .f32)
    (ha : (0xFF800000#32 : BitVec 32) = FKind.maximumf.neutral .f32 hφ) (hs : S512.ShapeCasts S512x1) (hb : S512x1.Broadcasts S512x128)
    (r : Fin 512) (k : Fin 128) :
    exp (subf v (broadcastTo S512x128 (shapeCast S512x1 (multiReduction .maximumf [1] S512 v 0xFF800000#32 hr hφ ha) hs) hb)) (ix2 r k)
      = expo (fun k => v (ix2 r k)) k :=
  congrArg Ideal.exp (congrArg (fun t : EReal => v (ix2 r k) - t) (max_spread (n := 512) v hr hφ ha hs hb r k))

/-- The weight of each token's own expert, as a half computes it. -/
theorem weight_apply (a : Vec Ideal S512x256 .bf16) (w : Vec Ideal S256x128 .bf16) (z : Vec Ideal S512x1 .i32) (r : Fin 512) (c : Fin 1) :
    k0_pay3 (F := Ideal) a w z (ix2 r c) = gate (soft (score (fun d => a (ix2 r d)) fun d k => w (ix2 d k))) (z (ix2 r 0)) := by
  unfold k0_pay3 k0_pay1 k0_pay2
  simp only [shapeCast_self]
  refine (add_col (n := 512) _ _ _ _ _ r c).trans ?_
  rw [← sum_masked]
  refine Finset.sum_congr rfl fun k _ => ?_
  rw [select_apply]
  have e1 : ∀ h h', cmpi .eq (iota .tc S512x128 32 [1] h) (broadcastTo S512x128 z h') (ix2 r k) = IntOp.cmpi .eq (BitVec.ofNat 32 k.val) (z (ix2 r 0)) := by
    intro h h'
    show IntOp.cmpi .eq _ _ = _
    rw [iota_single_apply]
    exact congrArg _ (spread_col (n := 512) (k := 128) z h' r k)
  rw [e1, select_eq, broadcast_apply]
  have e0 : (Scalar.ofBits .f32 0x00000000#32 : Ideal .f32) = 0 := Ideal.ofBits_zero_f32
  rw [e0]
  refine if_congr Iff.rfl ?_ rfl
  rw [divf_apply]
  refine (congrArg _ ((spread_col (n := 512) (k := 128) _ _ r k).trans (add_col (n := 512) _ _ _ _ _ r 0))).trans ?_
  unfold soft
  have e2 : (fun k => matmul (F := Ideal) (φ₁ := .bf16) (φ₂ := .bf16) dot_S512x256_S256x128_S512x128_1_0_0_1_n_n none a w (constant S512x128 .f32 0x00000000#32) (ix2 r k))
      = score (fun d => a (ix2 r d)) fun d k => w (ix2 d k) := funext fun k => route_apply a w r k
  rw [← e2]
  exact congrArg₂ Ideal.div (expo_apply _ _ _ _ _ _ r k) (Finset.sum_congr rfl fun k' _ => expo_apply _ _ _ _ _ _ r k')

/-- One expert's part of a half: its product, for the tokens that name it. -/
def term (z : Vec Ideal S512x1 .i32) (g : FVec Ideal S512x1 .f32) (e : BitVec 32) (a : FVec Ideal S512x256 .bf16) (u : Vec Ideal S1x256x512 .bf16) :
    FVec Ideal S512x512 .f32 :=
  mulf (broadcastTo S512x512 (select (cmpi .eq z (broadcast S512x1 e)) g (broadcast S512x1 (Scalar.ofBits .f32 0x00000000#32))) broadcasts_S512x1_S512x512)
    (matmul dot_S512x256_S256x512_S512x512_1_0_0_1_n_n none a (shapeCast S256x512 u shapeCasts_S1x256x512_S256x512 : FVec Ideal S256x512 .bf16) (constant S512x512 .f32 0x00000000#32))

/-- One expert's part of a half, entry by entry. -/
theorem term_apply (z : Vec Ideal S512x1 .i32) (g : FVec Ideal S512x1 .f32) (e : BitVec 32) (a : FVec Ideal S512x256 .bf16)
    (u : Vec Ideal S1x256x512 .bf16) (r f : Fin 512) :
    term z g e a u (ix2 r f) = (if z (ix2 r 0) = e then g (ix2 r 0) else 0) * line (fun d => a (ix2 r d)) (fun d f => u (ix3 0 d f)) f := by
  unfold term
  rw [mulf_apply, spread_col, expert_apply, select_apply]
  have e0 : (Scalar.ofBits .f32 0x00000000#32 : Ideal .f32) = 0 := Ideal.ofBits_zero_f32
  rw [broadcast_apply, e0]
  refine congrArg (· * _) ?_
  exact select_eq _ _ _ _

/-- The four parts of a half, added up. -/
def half (z : Vec Ideal S512x1 .i32) (g : FVec Ideal S512x1 .f32) (a : FVec Ideal S512x256 .bf16) (e : Fin 4 → BitVec 32)
    (u : Fin 4 → Vec Ideal S1x256x512 .bf16) : FVec Ideal S512x512 .f32 :=
  addf (addf (addf (addf (broadcast S512x512 (Scalar.ofBits .f32 0x00000000#32)) (term z g (e 0) a (u 0))) (term z g (e 1) a (u 1)))
    (term z g (e 2) a (u 2))) (term z g (e 3) a (u 3))

/-- A half of the partial result, entry by entry. -/
theorem half_apply (z : Vec Ideal S512x1 .i32) (g : FVec Ideal S512x1 .f32) (a : FVec Ideal S512x256 .bf16) (e : Fin 4 → BitVec 32)
    (u : Fin 4 → Vec Ideal S1x256x512 .bf16) (r f : Fin 512) :
    half z g a e u (ix2 r f)
      = ∑ j : Fin 4, (if z (ix2 r 0) = e j then g (ix2 r 0) else 0) * line (fun d => a (ix2 r d)) (fun d f => u j (ix3 0 d f)) f := by
  unfold half
  have e0 : (Scalar.ofBits .f32 0x00000000#32 : Ideal .f32) = 0 := Ideal.ofBits_zero_f32
  rw [addf_apply, addf_apply, addf_apply, addf_apply, term_apply, term_apply, term_apply, term_apply, broadcast_apply, e0, zero_add,
    Fin.sum_univ_four]

variable (m : (ℓ : Loc nD τ sig) → Buf (Elt Ideal) ℓ)

/-- The experts of a device by number, and their weights as loaded. -/
def expN (c : Dev nD) (j : Fin 4) : BitVec 32 := expW c (BitVec.ofNat 32 j.val)
/-- The weights of the device's `j`-th expert. -/
def expU (c : Dev nD) (j : Fin 4) : Vec Ideal S1x256x512 .bf16 := match j with
  | 0 => ldE0 m c | 1 => ldE1 m c | 2 => ldE2 m c | 3 => ldE3 m c

/-- The number of a device's `j`-th expert among all 128. -/
theorem expN_eq : ∀ (c : Dev nD) (j : Fin 4), expN c j = BitVec.ofNat 32 (4 * c.val + j.val) := by decide +kernel

/-- The half that the device gives away is such a half, -/
theorem peerHalf_eq (c : Dev nD) :
    peerHalf m c = half (ldI1 m c) (k0_pay3 (F := Ideal) (ldX1 m c) (ldR m c) (ldI1 m c)) (ldX1 m c) (expN c) (expU m c) := by
  unfold peerHalf k0_pay6 k0_pay5 k0_pay4 k0_pay1 k0_pay2
  simp only [shapeCast_self]
  rfl

/-- with weights computed in the same way, -/
theorem weight_eq (a : Vec Ideal S512x256 .bf16) (w : Vec Ideal S256x128 .bf16) (z : Vec Ideal S512x1 .i32) :
    k0_pay10 (F := Ideal) (k0_pay8 a w) z = k0_pay3 a w z := by
  unfold k0_pay10 k0_pay8 k0_pay3 k0_pay1 k0_pay2 k0_pay7
  simp only [shapeCast_self]

/-- and so is the half that it keeps. -/
theorem myHalf_eq (c : Dev nD) :
    myHalf m c = half (ldI2 m c) (k0_pay3 (F := Ideal) (ldX2 m c) (ldR m c) (ldI2 m c)) (ldX2 m c) (expN c) (expU m c) := by
  have h7 : k0_pay7 (ldX2 m c) = ldX2 m c := shapeCast_self _ _
  have h9 : k0_pay9 (F := Ideal) (ldI2 m c) = ldI2 m c := shapeCast_self _ _
  unfold myHalf k0_pay13 k0_pay12 k0_pay11
  rw [h7, h9, weight_eq]
  simp only [shapeCast_self]
  rfl

/-! ## The loads -/

/-- A row of a half of the tokens is the row of the whole, `o` rows on; of the indices likewise. -/
theorem row_x {o : Fin 2 → ℕ} {a : ℕ} (ho : o = ![a, 0]) (inb : ∀ d, o d + S512x256.size d ≤ S1024x256.size d) (v : Vec Ideal S1024x256 .bf16)
    (r : Fin 512) (d : Fin 256) (h : a + r.val < 1024) :
    xM.view.readAt (Elt Ideal) (Rect.unit (s := S1024x256) o S512x256.size inb).toLoadRect v (ix2 r d) = v (ix2 ⟨a + r.val, h⟩ d) := by
  subst ho
  show v ((Rect.unit (s := S1024x256) ![a, 0] S512x256.size inb).emb (ix2 r d)) = _
  refine congrArg v (Shape.idx_ext₂ ?_ ?_)
  · show a + 1 * r.val = a + r.val
    omega
  · show 0 + 1 * d.val = d.val
    omega

/-- An index of a row loaded is the array's. -/
theorem row_i {o : Fin 2 → ℕ} {a : ℕ} (ho : o = ![a, 0]) (inb : ∀ d, o d + S512x1.size d ≤ S1024x1.size d) (v : Vec Ideal S1024x1 .i32)
    (r : Fin 512) (d : Fin 1) (h : a + r.val < 1024) :
    ixM.view.readAt (Elt Ideal) (Rect.unit (s := S1024x1) o S512x1.size inb).toLoadRect v (ix2 r d) = v (ix2 ⟨a + r.val, h⟩ d) := by
  subst ho
  show v ((Rect.unit (s := S1024x1) ![a, 0] S512x1.size inb).emb (ix2 r d)) = _
  refine congrArg v (Shape.idx_ext₂ ?_ ?_)
  · show a + 1 * r.val = a + r.val
    omega
  · show 0 + 1 * d.val = d.val
    omega

/-- The router loaded is the router. -/
theorem ldR_eq (c : Dev nD) : ldR m c = wrV m c :=
  Memref.readAt_unit_zero (Elt Ideal) cc0_stg1_0 (by funext a; fin_cases a <;> rfl) inb_S256x128_S256x128_0_0 _

/-- An expert's weights as loaded are its block of the device's four. -/
theorem expU_apply (c : Dev nD) (j : Fin 4) (d : Fin 256) (f : Fin 512) : expU m c j (ix3 0 d f) = exV m c (ix3 j d f) := by
  have key : ∀ (j : Fin 4) h, ldE m c j h (ix3 0 d f) = exV m c (ix3 j d f) := fun j h => by
    show exV m c ((Rect.unit (s := S4x256x512) ![j.val, 0, 0] S1x256x512.size h).emb (ix3 0 d f)) = _
    refine congrArg (exV m c) (funext fun a => Fin.ext ?_)
    match a with
    | ⟨0, _⟩ => show j.val + 1 * 0 = j.val; omega
    | ⟨1, _⟩ => show 0 + 1 * d.val = d.val; omega
    | ⟨2, _⟩ => show 0 + 1 * f.val = f.val; omega
  match j with
  | 0 => exact key 0 _
  | 1 => exact key 1 _
  | 2 => exact key 2 _
  | 3 => exact key 3 _

/-! ## One device's partial result -/

/-- A token's row, and the softmax of its scores, from what a device holds. -/
def tok' (c : Dev nD) (r : Fin 1024) (d : Fin 256) : EReal := xV m c (ix2 r d)
/-- A token's softmax on a device. -/
def prob (c : Dev nD) (r : Fin 1024) : Fin 128 → EReal := soft (score (tok' m c r) fun d k => wrV m c (ix2 d k))

/-- The partial result, entry by entry: the parts of the device's four experts. -/
theorem P_apply (c : Dev nD) (r : Fin 1024) (f : Fin 512) :
    P m c (ix2 r f) = ∑ j : Fin 4, (if ixV m c (ix2 r 0) = expN c j then gate (prob m c r) (ixV m c (ix2 r 0)) else 0)
      * line (tok' m c r) (fun d f => exV m c (ix3 j d f)) f := by
  obtain ⟨h1, h2, h3⟩ := lo_bit c
  have hr := r.isLt
  have key : ∀ (a : ℕ) (h : a + r.val % 512 = r.val) (X : Vec Ideal S512x256 .bf16) (I : Vec Ideal S512x1 .i32)
      (hX : ∀ (s : Fin 512) (d : Fin 256) (h : a + s.val < 1024), X (ix2 s d) = xV m c (ix2 ⟨a + s.val, h⟩ d))
      (hI : ∀ (s : Fin 512) (d : Fin 1) (h : a + s.val < 1024), I (ix2 s d) = ixV m c (ix2 ⟨a + s.val, h⟩ d)),
      half I (k0_pay3 (F := Ideal) X (ldR m c) I) X (expN c) (expU m c) (ix2 ⟨r.val % 512, Nat.mod_lt _ (by decide)⟩ f)
        = ∑ j : Fin 4, (if ixV m c (ix2 r 0) = expN c j then gate (prob m c r) (ixV m c (ix2 r 0)) else 0)
          * line (tok' m c r) (fun d f => exV m c (ix3 j d f)) f := by
    intro a h X I hX hI
    have hr' : ∀ h', (⟨a + r.val % 512, h'⟩ : Fin 1024) = r := fun h' => Fin.ext h
    have hrow : (fun d => X (ix2 ⟨r.val % 512, Nat.mod_lt _ (by decide)⟩ d)) = tok' m c r := by
      funext d
      rw [hX _ d (by show a + r.val % 512 < 1024; omega)]
      show xV m c (ix2 ⟨a + r.val % 512, _⟩ d) = _
      rw [hr']; rfl
    have hidx : I (ix2 ⟨r.val % 512, Nat.mod_lt _ (by decide)⟩ 0) = ixV m c (ix2 r 0) := by
      rw [hI _ 0 (by show a + r.val % 512 < 1024; omega)]
      show ixV m c (ix2 ⟨a + r.val % 512, _⟩ 0) = _
      rw [hr']
    rw [half_apply, weight_apply, hidx, hrow, ldR_eq]
    refine Finset.sum_congr rfl fun j _ => ?_
    simp only [expU_apply]
    rfl
  show (if r.val / 512 = bit 0 c then myHalf m c (ix2 ⟨r.val % 512, _⟩ f) else peerHalf m c (ix2 ⟨r.val % 512, _⟩ f)) = _
  split
  · rename_i hb
    rw [myHalf_eq]
    exact key (lo 1 c) (by omega) (ldX2 m c) (ldI2 m c) (fun s d h => row_x (off5_eq c) (k0_off5_inb c) _ s d h) (fun s d h => row_i (off6_eq c) (k0_off6_inb c) _ s d h)
  · rename_i hb
    rw [peerHalf_eq]
    exact key (lo 1 (prt 0 c)) (by omega) (ldX1 m c) (ldI1 m c) (fun s d h => row_x (off1_eq c) (k0_off1_inb c) _ s d h) (fun s d h => row_i (off2_eq c) (k0_off2_inb c) _ s d h)

/-! ## The reduction -/

/-- The devices whose partial results a device has after `k` levels. -/
def grp : ℕ → Dev nD → Finset (Dev nD)
  | 0, c => {c}
  | k + 1, c => grp k c ∪ grp k (prt k c)

/-- Partners have summed different devices, -/
theorem grp_disjoint : ∀ k < 5, ∀ c : Dev nD, Disjoint (grp k c) (grp k (prt k c)) := by decide +kernel

/-- and after the last level every device is summed. -/
theorem grp_all : ∀ c : Dev nD, grp 5 c = Finset.univ := by decide +kernel

/-- After `k` levels a device has the sum of its group's partial results. -/
theorem A_apply (i : S1024x512.Idx) : ∀ k ≤ 5, ∀ c : Dev nD, A m k c i = ∑ d ∈ grp k c, P m d i
  | 0, _, c => (Finset.sum_singleton _ _).symm
  | k + 1, hk, c => by
    show A m k c i + A m k (prt k c) i = ∑ d ∈ grp k c ∪ grp k (prt k c), P m d i
    rw [Finset.sum_union (grp_disjoint k (by omega) c), A_apply i k (by omega), A_apply i k (by omega)]

/-- The reduced rows are the sum of every device's partial result. -/
theorem FIN_apply (i : S1024x512.Idx) : FIN m i = ∑ d : Dev nD, P m d i :=
  (A_apply m i 5 le_rfl _).trans (by rw [grp_all])

/-- The shared expert's product, at an entry. -/
theorem shared_apply (c : Dev nD) (r : Fin 1024) (f : Fin 512) :
    k0_pay14 (F := Ideal) (xV m c) (shV m c) (ix2 r f) = line (tok' m c r) (fun d f => shV m c (ix2 d f)) f := by
  unfold k0_pay14
  simp only [shapeCast_self]
  refine (Ideal.matmul_plain_apply (M := 1024) (K := 256) (N := 512) none (φ₁ := .bf16) (φ₂ := .bf16) (xV m c) (shV m c) _ r f).trans ?_
  rw [constant_apply, Ideal.ofBits_zero_f32, zero_add]
  rfl

/-- The result on a device, at an entry. -/
theorem OUT_apply (c : Dev nD) (r : Fin 1024) (f : Fin 512) :
    OUT m c (ix2 r f) = line (tok' m c r) (fun d f => shV m c (ix2 d f)) f
      + ∑ e : Dev nD, ∑ j : Fin 4, (if ixV m e (ix2 r 0) = expN e j then gate (prob m e r) (ixV m e (ix2 r 0)) else 0)
        * line (tok' m e r) (fun d f => exV m e (ix3 j d f)) f := by
  refine congrArg₂ (fun a b : EReal => a + b) (shared_apply m c r f) ?_
  exact (FIN_apply m (ix2 r f)).trans (Finset.sum_congr rfl fun e _ => P_apply m e r f)

end Cert.MoeProof

end
-- ==== Proof.Ref.lean ====
/-
  The reference's result on the extended reals, entry by entry: the shared product, and the token's own expert's
  product times its softmax, or zero when the index names no expert.
-/
module

public import proofs.«01_k».proof.Proof.Gen.ReferenceIdeal.Run
public import proofs.«01_k».proof.Proof.Maths

@[expose] public section

set_option maxRecDepth 16384

noncomputable section

namespace Cert.MoeProof.Ref

open Cert.ReferenceIdeal Cert.ReferenceIdeal.Gen
open Idealize.ShloMosaic Idealize.ShloMosaic.TcCoe Idealize.ShloMosaic.ValueIdx

/-! ## The pieces of the reference -/

/-- The indices clipped to the experts. -/
def clipped (I : IVec S1024x1 32) : IVec S1024x1 32 :=
  minsi (broadcastInDim S1024x1 ![] bcast_S_S1024x1 (id (constantI S_ 32 127#32)))
    (maxsi (broadcastInDim S1024x1 ![] bcast_S_S1024x1 (id (constantI S_ 32 0#32))) I)

/-- Indices counted from the end when negative: of a column, and of a vector. -/
def wrapC (J : IVec S1024x1 32) : IVec S1024x1 32 :=
  select (cmpi .slt J (broadcastInDim S1024x1 ![] bcast_S_S1024x1 (constantI S_ 32 0#32)))
    (addi J (broadcastInDim S1024x1 ![] bcast_S_S1024x1 (constantI S_ 32 128#32))) J
/-- The same of a vector. -/
def wrapV (J : IVec S1024 32) : IVec S1024 32 :=
  select (cmpi .slt J (broadcastInDim S1024 ![] bcast_S_S1024 (constantI S_ 32 0#32)))
    (addi J (broadcastInDim S1024 ![] bcast_S_S1024 (constantI S_ 32 128#32))) J

/-- Which of the softmax's lanes exist. -/
def inC (K : IVec S1024x1x1 32) : IVec S1024x1 1 :=
  Host.reduce IntOp.andi (andi (cmpi .sge K (broadcastInDim S1024x1x1 ![] bcast_S_S1024x1x1 (constantI S_ 32 0#32)))
      (cmpi .sle K (broadcastInDim S1024x1x1 ![0, 1, 2] bcast_S1x1x1_S1024x1x1_0_1_2 (broadcastInDim S1x1x1 ![2] bcast_S1_S1x1x1_2 (constantI S1 32 127#32)))))
    (constantI S_ 1 1#1) reducesTo_S1024x1x1_S1024x1_d2 h_S_

/-- Which of the experts exist. -/
def inV (K : IVec S1024x1 32) : IVec S1024 1 :=
  Host.reduce IntOp.andi (andi (cmpi .sge K (broadcastInDim S1024x1 ![] bcast_S_S1024x1 (constantI S_ 32 0#32)))
      (cmpi .sle K (broadcastInDim S1024x1 ![0, 1] bcast_S1x1_S1024x1_0_1 (broadcastInDim S1x1 ![1] bcast_S1_S1x1_1 (constantI S1 32 127#32)))))
    (constantI S_ 1 1#1) reducesTo_S1024x1_S1024_d1 h_S_

/-- The scores. -/
def scores (X : FVec Ideal S1024x256 .bf16) (R : FVec Ideal S256x128 .bf16) : FVec Ideal S1024x128 .f32 :=
  Host.dotGeneral dot_S1024x256_S256x128_S1024x128_1_0_0_1_n_n none (extf .f32 X bitsLt_bf16_f32) (extf .f32 R bitsLt_bf16_f32)

/-- The exponentials of scores, less each row's greatest. -/
def expos (v : FVec Ideal S1024x128 .f32) : FVec Ideal S1024x128 .f32 :=
  Host.exp (subf v (broadcastInDim S1024x128 ![0, 1] bcast_S1024x1_S1024x128_0_1 (broadcastInDim S1024x1 ![0] bcast_S1024_S1024x1_0
    (Host.reduce FloatOps.maximumf v (constant S_ .f32 0xFF800000#32) reducesTo_S1024x128_S1024_d1 h_S_))))

/-- Exponentials over their row's sum. -/
def norms (e : FVec Ideal S1024x128 .f32) : FVec Ideal S1024x128 .f32 :=
  Host.divf e (broadcastInDim S1024x128 ![0, 1] bcast_S1024x1_S1024x128_0_1 (broadcastInDim S1024x1 ![0] bcast_S1024_S1024x1_0
    (Host.reduceAdd e (constant S_ .f32 0x00000000#32) reducesTo_S1024x128_S1024_d1 h_S_)))

/-- The softmax taken at each row's index. -/
def taken (p : FVec Ideal S1024x128 .f32) (K : IVec S1024x1x1 32) : FVec Ideal S1024x1 .f32 :=
  select (inC K) (Host.gather gather_S1024x128_S1024x1x1_S1024x1_n_1_0_0_1_2_11 p K)
    (broadcastInDim S1024x1 ![] bcast_S_S1024x1 (constant S_ .f32 0x7FC00000#32))

/-- The gates: the taken softmax, or zero at an index that names no expert. -/
def gates (I : IVec S1024x1 32) (g : FVec Ideal S1024x1 .f32) : FVec Ideal S1024x1 .f32 :=
  select (andi (cmpi .sge I (broadcastInDim S1024x1 ![] bcast_S_S1024x1 (constantI S_ 32 0#32)))
      (cmpi .slt I (broadcastInDim S1024x1 ![] bcast_S_S1024x1 (constantI S_ 32 128#32)))) g
    (broadcastInDim S1024x1 ![] bcast_S_S1024x1 (id (constant S_ .f32 0x00000000#32)))

/-- The weights of each row's expert. -/
def chosen (W : FVec Ideal S128x256x512 .bf16) (K : IVec S1024x1 32) : FVec Ideal S1024x256x512 .f32 :=
  select (broadcastInDim S1024x256x512 ![0] bcast_S1024_S1024x256x512_0 (inV K))
    (Host.gather gather_S128x256x512_S1024x1_S1024x256x512_12_0_n_n_0_1_1256512 (extf .f32 W bitsLt_bf16_f32) K)
    (broadcastInDim S1024x256x512 ![] bcast_S_S1024x256x512 (constant S_ .f32 0x7FC00000#32))

/-- The reference's result from its arguments. -/
def result (X : FVec Ideal S1024x256 .bf16) (R : FVec Ideal S256x128 .bf16) (I : IVec S1024x1 32) (W : FVec Ideal S128x256x512 .bf16)
    (S : FVec Ideal S256x512 .bf16) : FVec Ideal S1024x512 .f32 :=
  addf (Host.dotGeneral dot_S1024x256_S256x512_S1024x512_1_0_0_1_n_n none (extf .f32 X bitsLt_bf16_f32) (extf .f32 S bitsLt_bf16_f32))
    (mulf (broadcastInDim S1024x512 ![0, 1] bcast_S1024x1_S1024x512_0_1
        (gates I (taken (norms (expos (scores X R))) (shapeCast S1024x1x1 (wrapC (clipped I)) shapeCasts_S1024x1_S1024x1x1))))
      (Host.dotGeneral dot_S1024x256_S1024x256x512_S1024x512_1_1_n_2_0_0 none (extf .f32 X bitsLt_bf16_f32)
        (chosen W (broadcastInDim S1024x1 ![0] bcast_S1024_S1024x1_0 (wrapV (shapeCast S1024 (clipped I) shapeCasts_S1024x1_S1024))))))

/-- The reference program leaves that result. -/
theorem out_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The clipped index -/

/-- A word clipped to `0 … 127`. -/
def clip (z : BitVec 32) : BitVec 32 := IntOp.minsi 127#32 (IntOp.maxsi 0#32 z)

/-- A clipped word names an expert, -/
theorem clip_lt (z : BitVec 32) : (clip z).toNat < 128 := by
  unfold clip IntOp.minsi IntOp.maxsi
  have hz := z.isLt
  split
  · decide
  · rename_i h
    revert h
    split
    · intro; decide
    · rename_i h'
      intro h
      simp only [BitVec.slt, BitVec.toInt_eq_toNat_cond, decide_eq_true_eq] at h h'
      simp at h h'
      omega

/-- and a word that names an expert is left alone. -/
theorem clip_of (z : BitVec 32) (hz : z.toNat < 128) : clip z = z := by
  unfold clip IntOp.minsi IntOp.maxsi
  have h0 : z.slt 0#32 = false := by
    simp [BitVec.slt, BitVec.toInt_eq_toNat_cond]; omega
  have h1 : (127#32 : BitVec 32).slt z = false := by
    simp [BitVec.slt, BitVec.toInt_eq_toNat_cond]; omega
  rw [h0]; simp [h1]

/-- What the comparisons say of a word below 128. -/
theorem small (e : BitVec 32) (he : e.toNat < 128) :
    IntOp.cmpi .slt e 0#32 = 0#1 ∧ IntOp.cmpi .sge e 0#32 = 1#1 ∧ IntOp.cmpi .sle e 127#32 = 1#1 ∧ IntOp.cmpi .slt e 128#32 = 1#1
      ∧ e.toInt.toNat = e.toNat := by
  have hi : e.toInt = (e.toNat : ℤ) := by rw [BitVec.toInt_eq_toNat_cond]; split <;> omega
  refine ⟨?_, ?_, ?_, ?_, by rw [hi]; rfl⟩
  · have : e.slt 0#32 = false := by simp [BitVec.slt, hi]
    simp [IntOp.cmpi, this]
  · have : (0#32 : BitVec 32).sle e = true := by simp [BitVec.sle, hi]
    simp [IntOp.cmpi, this]
  · have : e.sle 127#32 = true := by simp [BitVec.sle, hi]; omega
    simp [IntOp.cmpi, this]
  · have : e.slt 128#32 = true := by simp [BitVec.slt, hi]; omega
    simp [IntOp.cmpi, this]

/-- A word is from 0 to 127 as a signed number exactly when it is below 128 as a natural one. -/
theorem valid_iff (z : BitVec 32) :
    IntOp.andi (IntOp.cmpi .sge z 0#32) (IntOp.cmpi .slt z 128#32) = if z.toNat < 128 then 1#1 else 0#1 := by
  split
  · rename_i h
    obtain ⟨_, h1, _, h2, _⟩ := small z h
    rw [h1, h2]; rfl
  · rename_i h
    have hz := z.isLt
    by_cases hp : (0#32 : BitVec 32).sle z = true
    · have : z.slt 128#32 = false := by
        simp [BitVec.sle, BitVec.toInt_eq_toNat_cond] at hp
        simp [BitVec.slt, BitVec.toInt_eq_toNat_cond]
        split at hp <;> split <;> omega
      simp [IntOp.cmpi, IntOp.andi, this]
    · simp [IntOp.cmpi, IntOp.andi, hp]

/-! ## The index operations at a row -/

/-- The clipped indices, entry by entry. -/
theorem clipped_apply (I : IVec S1024x1 32) (i : S1024x1.Idx) : clipped I i = clip (I i) := rfl

/-- An index that names an expert is not counted from the end, in a column -/
theorem wrapC_apply (J : IVec S1024x1 32) (i : S1024x1.Idx) (h : (J i).toNat < 128) : wrapC J i = J i := by
  show Scalar.select (IntOp.cmpi .slt (J i) 0#32) _ (J i) = _
  rw [(small _ h).1]; rfl

/-- or in a vector. -/
theorem wrapV_apply (J : IVec S1024 32) (i : S1024.Idx) (h : (J i).toNat < 128) : wrapV J i = J i := by
  show Scalar.select (IntOp.cmpi .slt (J i) 0#32) _ (J i) = _
  rw [(small _ h).1]; rfl

instance : Std.Commutative (IntOp.andi (w := 1)) := ⟨fun x y => BitVec.and_comm x y⟩
instance : Std.Associative (IntOp.andi (w := 1)) := ⟨fun x y z => BitVec.and_assoc x y z⟩

/-- Folding `and` over ones gives one. -/
theorem fold_ones {ι : Type} (t : Finset ι) (f : ι → BitVec 1) (h : ∀ i ∈ t, f i = 1#1) : t.fold IntOp.andi 1#1 f = 1#1 := by
  classical
  induction t using Finset.induction_on with
  | empty => rfl
  | insert i t hi ih =>
    rw [Finset.fold_insert hi, h i (Finset.mem_insert_self i t), ih fun j hj => h j (Finset.mem_insert_of_mem hj)]
    rfl

/-- Every lane below 128 exists. -/
theorem inC_apply (K : IVec S1024x1x1 32) (h : ∀ i, (K i).toNat < 128) (j : S1024x1.Idx) : inC K j = 1#1 := by
  have hk : S1024x1x1.Reduces [2] S1024x1 := by decide
  unfold inC
  rw [Host.reduce_eq_fold_single _ _ _ _ hk]
  refine fold_ones _ _ fun i _ => ?_
  show IntOp.andi (IntOp.cmpi .sge _ 0#32) (IntOp.cmpi .sle _ 127#32) = 1#1
  rw [(small _ (h _)).2.1, (small _ (h _)).2.2.1]; rfl

/-- Every expert below 128 exists. -/
theorem inV_apply (K : IVec S1024x1 32) (h : ∀ i, (K i).toNat < 128) (j : S1024.Idx) : inV K j = 1#1 := by
  have hk : S1024x1.Reduces [1] S1024 := by decide
  unfold inV
  rw [Host.reduce_eq_fold_single _ _ _ _ hk]
  refine fold_ones _ _ fun i _ => ?_
  show IntOp.andi (IntOp.cmpi .sge _ 0#32) (IntOp.cmpi .sle _ 127#32) = 1#1
  rw [(small _ (h _)).2.1, (small _ (h _)).2.2.1]; rfl

/-- The gather down each row's lanes, and the lane it reads. -/
abbrev downC : GatherDims S1024x128 S1024x1x1 S1024x1 := gather_S1024x128_S1024x1x1_S1024x1_n_1_0_0_1_2_11

/-- The gather of whole experts. -/
abbrev downV : GatherDims S128x256x512 S1024x1 S1024x256x512 :=
  gather_S128x256x512_S1024x1_S1024x256x512_12_0_n_n_0_1_1256512

/-- The gather down each row's lanes reads the lane the index names. -/
theorem gatherC_apply (p : FVec Ideal S1024x128 .f32) (K : IVec S1024x1x1 32) (r : Fin 1024) (c : Fin 1) :
    Host.gather gather_S1024x128_S1024x1x1_S1024x1_n_1_0_0_1_2_11 p K (ix2 r c)
      = p (ix2 r ⟨min (K (ix3 r 0 0)).toInt.toNat 127, by omega⟩) := by
  obtain rfl : c = 0 := Subsingleton.elim _ _
  refine congrArg p (Shape.idx_ext₂ ?_ ?_)
  · have hs : downC.start (ix2 r 0) K 0 = 0 := downC.start_batching _ _ _ (by decide)
    have ho : downC.offCoord (ix2 r 0) 0 = 0 := downC.offCoord_eq_zero _ _ (by decide)
    have hb : downC.batchCoord (ix2 r 0) 0 = r.val := rfl
    show downC.start (ix2 r 0) K 0 + downC.batchCoord (ix2 r 0) 0 + downC.offCoord (ix2 r 0) 0 = r.val
    omega
  · have hs : downC.start (ix2 r 0) K 1 = min (K (ix3 r 0 0)).toInt.toNat 127 := by
      unfold GatherDims.start
      rw [dif_pos (by decide)]
      refine congrArg (fun i => min (K i).toInt.toNat 127) (funext fun b => Fin.ext ?_)
      match b with
      | ⟨0, _⟩ => rfl
      | ⟨1, _⟩ => rfl
      | ⟨2, _⟩ => rfl
    have ho : downC.offCoord (ix2 r 0) 1 = 0 := downC.offCoord_eq_zero _ _ (by decide)
    have hb : downC.batchCoord (ix2 r 0) 1 = 0 := downC.batchCoord_eq_zero _ _ (by decide)
    show downC.start (ix2 r 0) K 1 + downC.batchCoord (ix2 r 0) 1 + downC.offCoord (ix2 r 0) 1
      = min (K (ix3 r 0 0)).toInt.toNat 127
    omega

/-- The gather of whole experts reads the expert the index names. -/
theorem gatherV_apply (W : FVec Ideal S128x256x512 .f32) (K : IVec S1024x1 32) (r : Fin 1024) (d : Fin 256) (f : Fin 512) :
    Host.gather gather_S128x256x512_S1024x1_S1024x256x512_12_0_n_n_0_1_1256512 W K (ix3 r d f)
      = W (ix3 ⟨min (K (ix2 r 0)).toInt.toNat 127, by omega⟩ d f) := by
  have hb (a) : downV.batchCoord (ix3 r d f) a = 0 := downV.batchCoord_eq_zero _ _ List.not_mem_nil
  have h1 : downV.start (ix3 r d f) K 1 = 0 := by unfold GatherDims.start; exact dif_neg (by decide)
  have h2 : downV.start (ix3 r d f) K 2 = 0 := by unfold GatherDims.start; exact dif_neg (by decide)
  have h0 : downV.start (ix3 r d f) K 0 = min (K (ix2 r 0)).toInt.toNat 127 := by
    unfold GatherDims.start
    rw [dif_pos (by decide)]
    refine congrArg (fun i => min (K i).toInt.toNat 127) (Shape.idx_ext₂ ?_ ?_) <;> rfl
  have o0 : downV.offCoord (ix3 r d f) 0 = 0 := downV.offCoord_eq_zero _ _ (by decide)
  have o1 : downV.offCoord (ix3 r d f) 1 = d.val := rfl
  have o2 : downV.offCoord (ix3 r d f) 2 = f.val := rfl
  refine congrArg W (funext fun a => Fin.ext ?_)
  have hb' := hb a
  match a with
  | ⟨0, _⟩ =>
    show downV.start (ix3 r d f) K 0 + downV.batchCoord (ix3 r d f) 0 + downV.offCoord (ix3 r d f) 0 = min (K (ix2 r 0)).toInt.toNat 127
    rw [hb]; omega
  | ⟨1, _⟩ =>
    show downV.start (ix3 r d f) K 1 + downV.batchCoord (ix3 r d f) 1 + downV.offCoord (ix3 r d f) 1 = d.val
    rw [hb]; omega
  | ⟨2, _⟩ =>
    show downV.start (ix3 r d f) K 2 + downV.batchCoord (ix3 r d f) 2 + downV.offCoord (ix3 r d f) 2 = f.val
    rw [hb]; omega

/-! ## The products -/

/-- The scores, entry by entry. -/
theorem scores_apply (X : FVec Ideal S1024x256 .bf16) (R : FVec Ideal S256x128 .bf16) (r : Fin 1024) (k : Fin 128) :
    scores X R (ix2 r k) = score (fun d => X (ix2 r d)) (fun d k => R (ix2 d k)) k := by
  unfold scores
  rw [← matmul_zero_eq_dotGeneral]
  refine (Ideal.matmul_plain_apply (M := 1024) (K := 256) (N := 128) none _ _ _ r k).trans ?_
  rw [constant_apply, Ideal.ofBits_zero_f32, zero_add]
  rfl

/-- The shared product, entry by entry. -/
theorem shared_apply (X : FVec Ideal S1024x256 .bf16) (S : FVec Ideal S256x512 .bf16) (r : Fin 1024) (f : Fin 512) :
    Host.dotGeneral dot_S1024x256_S256x512_S1024x512_1_0_0_1_n_n none (extf .f32 X bitsLt_bf16_f32) (extf .f32 S bitsLt_bf16_f32) (ix2 r f)
      = line (fun d => X (ix2 r d)) (fun d f => S (ix2 d f)) f := by
  rw [← matmul_zero_eq_dotGeneral]
  refine (Ideal.matmul_plain_apply (M := 1024) (K := 256) (N := 512) none _ _ _ r f).trans ?_
  rw [constant_apply, Ideal.ofBits_zero_f32, zero_add]
  rfl

/-- Each row's product with its own matrix. -/
theorem routed_apply (X : FVec Ideal S1024x256 .bf16) (C : FVec Ideal S1024x256x512 .f32) (r : Fin 1024) (f : Fin 512) :
    Host.dotGeneral dot_S1024x256_S1024x256x512_S1024x512_1_1_n_2_0_0 none (extf .f32 X bitsLt_bf16_f32) C (ix2 r f)
      = line (fun d => X (ix2 r d)) (fun d f => C (ix3 r d f)) f := by
  have hr : (dot_S1024x256_S1024x256x512_S1024x512_1_1_n_2_0_0).contr.rank = 1 := rfl
  have hs : (dot_S1024x256_S1024x256x512_S1024x512_1_1_n_2_0_0).contr.size ⟨0, by omega⟩ = 256 := rfl
  refine (Ideal.dotGeneral_apply _ none _ _ _ _).trans ?_
  rw [← Equiv.sum_comp (contrEquiv1 _ 256 hr hs).symm]
  unfold line
  refine Finset.sum_congr rfl fun d _ => ?_
  have hd := contrEquiv1_symm_val dot_S1024x256_S1024x256x512_S1024x512_1_1_n_2_0_0 256 hr hs d
  refine congrArg₂ (fun a b : EReal => a * b) (congrArg X (Shape.idx_ext₂ ?_ ?_)) (congrArg C (funext fun a => Fin.ext ?_))
  · rfl
  · exact hd
  · match a with
    | ⟨0, _⟩ => rfl
    | ⟨1, _⟩ => exact hd
    | ⟨2, _⟩ => rfl

/-! ## The softmax and the gates -/

/-- The exponentials, entry by entry. -/
theorem expos_apply (v : FVec Ideal S1024x128 .f32) (r : Fin 1024) (k : Fin 128) : expos v (ix2 r k) = expo (fun k => v (ix2 r k)) k := by
  have hk : S1024x128.Reduces [1] S1024 := by decide
  exact congrArg Ideal.exp (congrArg (fun t : EReal => v (ix2 r k) - t) (host_max_spread (n := 1024) v _ hk _ _ _ r k))

/-- Their quotients are the softmax. -/
theorem soft_apply (v : FVec Ideal S1024x128 .f32) (r : Fin 1024) (k : Fin 128) : norms (expos v) (ix2 r k) = soft (fun k => v (ix2 r k)) k := by
  have hk : S1024x128.Reduces [1] S1024 := by decide
  refine congrArg₂ Ideal.div (expos_apply v r k) ?_
  refine (host_add_spread (n := 1024) _ _ hk _ _ _ r k).trans ?_
  exact Finset.sum_congr rfl fun k' _ => expos_apply v r k'

/-- The column of lanes holds words below 128. -/
theorem lanes_lt (I : IVec S1024x1 32) (i : S1024x1.Idx) : (wrapC (clipped I) i).toNat < 128 := by
  rw [wrapC_apply _ _ (clip_lt _)]; exact clip_lt _

/-- The vector of experts holds words below 128. -/
theorem experts_lt (I : IVec S1024x1 32) (i : S1024.Idx) :
    (wrapV (shapeCast S1024 (clipped I) shapeCasts_S1024x1_S1024) i).toNat < 128 := by
  rw [wrapV_apply _ _ (clip_lt _)]; exact clip_lt _

/-- The softmax taken at lanes below 128 is its value there. -/
theorem taken_apply (p : FVec Ideal S1024x128 .f32) (K : IVec S1024x1x1 32) (h : ∀ i, (K i).toNat < 128) (r : Fin 1024) :
    taken p K (ix2 r 0) = p (ix2 r ⟨(K (ix3 r 0 0)).toNat, h _⟩) := by
  show Scalar.select (inC K (ix2 r 0)) (Host.gather downC p K (ix2 r 0)) _ = _
  rw [inC_apply K h, gatherC_apply]
  refine congrArg (fun k => p (ix2 r k)) (Fin.ext ?_)
  show min (K (ix3 r 0 0)).toInt.toNat 127 = (K (ix3 r 0 0)).toNat
  have := h (ix3 r 0 0)
  rw [(small _ this).2.2.2.2]; omega

/-- The weights taken at experts below 128 are theirs. -/
theorem chosen_apply (W : FVec Ideal S128x256x512 .bf16) (K : IVec S1024x1 32) (h : ∀ i, (K i).toNat < 128)
    (r : Fin 1024) (d : Fin 256) (f : Fin 512) :
    chosen W K (ix3 r d f) = W (ix3 ⟨(K (ix2 r 0)).toNat, h _⟩ d f) := by
  show Scalar.select (inV K _) (Host.gather downV (extf .f32 W bitsLt_bf16_f32) K (ix3 r d f)) _ = _
  rw [inV_apply K h, gatherV_apply]
  refine congrArg (fun k => W (ix3 k d f)) (Fin.ext ?_)
  show min (K (ix2 r 0)).toInt.toNat 127 = (K (ix2 r 0)).toNat
  have := h (ix2 r 0)
  rw [(small _ this).2.2.2.2]; omega

/-- A gate is the taken value when the index names an expert, and zero otherwise. -/
theorem gates_apply (I : IVec S1024x1 32) (g : FVec Ideal S1024x1 .f32) (i : S1024x1.Idx) :
    gates I g i = if (I i).toNat < 128 then g i else (0 : EReal) := by
  show Scalar.select (IntOp.andi (IntOp.cmpi .sge (I i) 0#32) (IntOp.cmpi .slt (I i) 128#32)) (g i) (Ideal.ofBits .f32 0x00000000#32) = _
  rw [valid_iff, Ideal.ofBits_zero_f32]
  split <;> rfl

/-- The reference's result at an entry: the shared product, and the row's expert's product times its softmax when
    the index names an expert. -/
theorem result_apply (X : FVec Ideal S1024x256 .bf16) (R : FVec Ideal S256x128 .bf16) (I : IVec S1024x1 32)
    (W : FVec Ideal S128x256x512 .bf16) (S : FVec Ideal S256x512 .bf16) (r : Fin 1024) (f : Fin 512) :
    result X R I W S (ix2 r f) = line (fun d => X (ix2 r d)) (fun d f => S (ix2 d f)) f
      + if h : (I (ix2 r 0)).toNat < 128 then
          soft (score (fun d => X (ix2 r d)) fun d k => R (ix2 d k)) ⟨(I (ix2 r 0)).toNat, h⟩
            * line (fun d => X (ix2 r d)) (fun d f => W (ix3 ⟨(I (ix2 r 0)).toNat, h⟩ d f)) f
        else 0 := by
  unfold result
  refine congrArg₂ (fun a b : EReal => a + b) (shared_apply X S r f) ?_
  refine (congrArg₂ (fun a b : EReal => a * b) ((host_spread_col _ _ r f).trans (gates_apply I _ _)) (routed_apply X _ r f)).trans ?_
  by_cases h : (I (ix2 r 0)).toNat < 128
  · have hc : clip (I (ix2 r 0)) = I (ix2 r 0) := clip_of _ h
    rw [dif_pos h]
    simp only [if_pos h]
    refine congrArg₂ (fun a b : EReal => a * b) ?_ ?_
    · have hK : ∀ i, (shapeCast S1024x1x1 (wrapC (clipped I)) shapeCasts_S1024x1_S1024x1x1 i).toNat < 128 := fun i => lanes_lt I _
      rw [taken_apply _ _ hK, soft_apply]
      have hs : (fun k => scores X R (ix2 r k)) = score (fun d => X (ix2 r d)) fun d k => R (ix2 d k) :=
        funext fun k => scores_apply X R r k
      rw [hs]
      refine congrArg (soft _) (Fin.ext ?_)
      show (shapeCast S1024x1x1 (wrapC (clipped I)) shapeCasts_S1024x1_S1024x1x1 (ix3 r 0 0)).toNat = _
      rw [show shapeCast S1024x1x1 (wrapC (clipped I)) shapeCasts_S1024x1_S1024x1x1 (ix3 r 0 0) = _ from cast_col₃ _ _ r 0 0]
      rw [wrapC_apply _ _ (clip_lt _), clipped_apply, hc]
    · refine congrArg (fun u => line (fun d => X (ix2 r d)) u f) (funext fun d => funext fun f => ?_)
      have hK : ∀ i, ((broadcastInDim S1024x1 ![0] bcast_S1024_S1024x1_0
          (wrapV (shapeCast S1024 (clipped I) shapeCasts_S1024x1_S1024))) i).toNat < 128 := fun i => experts_lt I _
      rw [chosen_apply _ _ hK]
      refine congrArg (fun k => W (ix3 k d f)) (Fin.ext ?_)
      show (wrapV (shapeCast S1024 (clipped I) shapeCasts_S1024x1_S1024) _).toNat = _
      rw [wrapV_apply _ _ (clip_lt _)]
      refine congrArg BitVec.toNat ((cast_vec (clipped I) _ r).trans ?_)
      rw [clipped_apply, hc]
  · rw [dif_neg h]
    simp only [if_neg h, zero_mul]

end Cert.MoeProof.Ref

end
-- ==== Proof.Algebra.lean ====
/-
  The kernel's result on every device is the reference's: the sum over the devices of each token's routed product
  picks the one expert its index names.
-/
module

public import proofs.«01_k».proof.Proof.Frames
public import proofs.«01_k».proof.Proof.Value
public import proofs.«01_k».proof.Proof.Ref

@[expose] public section

set_option maxRecDepth 16384

noncomputable section

namespace Cert.MoeProof

open Cert.KernelIdeal Cert.KernelIdeal.Gen
open Idealize.ShloMosaic Idealize.ShloMosaic.TcCoe Idealize.ShloMosaic.ValueIdx
open Idealize.SL.Sem

section Whole

variable {F : FTy → Type} [FloatOps F]
variable (m : (ℓ : Loc nD τ sig) → Buf (Elt F) ℓ) (ρ : Dev nD → PrngReg)

/-- What the body reads of the tokens is the whole argument; -/
theorem xV_eq (c : Dev nD) : xV m c = m ((c : Thread nD τ).loc main_arg0) := by
  show (win0_0.blk (0 : Fin 1)).view.read (Elt F) (m ((c : Thread nD τ).loc main_arg0)) = _
  exact Memref.read_access_unit_zero (Elt F) main_arg0 (show (fun a => win0_0.index (0 : Fin 1) a * main_arg0.ty.shape.size a) = fun _ => 0 from funext fun a => by fin_cases a <;> decide) (fun a => by fin_cases a <;> decide) (m ((c : Thread nD τ).loc main_arg0))

/-- so of the router, -/
theorem wrV_eq (c : Dev nD) : wrV m c = m ((c : Thread nD τ).loc main_arg1) := by
  show (win0_1.blk (0 : Fin 1)).view.read (Elt F) (m ((c : Thread nD τ).loc main_arg1)) = _
  exact Memref.read_access_unit_zero (Elt F) main_arg1 (show (fun a => win0_1.index (0 : Fin 1) a * main_arg1.ty.shape.size a) = fun _ => 0 from funext fun a => by fin_cases a <;> decide) (fun a => by fin_cases a <;> decide) (m ((c : Thread nD τ).loc main_arg1))

/-- of the indices, -/
theorem ixV_eq (c : Dev nD) : ixV m c = m ((c : Thread nD τ).loc main_arg2) := by
  show (win0_2.blk (0 : Fin 1)).view.read (Elt F) (m ((c : Thread nD τ).loc main_arg2)) = _
  exact Memref.read_access_unit_zero (Elt F) main_arg2 (show (fun a => win0_2.index (0 : Fin 1) a * main_arg2.ty.shape.size a) = fun _ => 0 from funext fun a => by fin_cases a <;> decide) (fun a => by fin_cases a <;> decide) (m ((c : Thread nD τ).loc main_arg2))

/-- of the device's experts, -/
theorem exV_eq (c : Dev nD) : exV m c = m ((c : Thread nD τ).loc main_arg3) := by
  show (win0_3.blk (0 : Fin 1)).view.read (Elt F) (m ((c : Thread nD τ).loc main_arg3)) = _
  exact Memref.read_access_unit_zero (Elt F) main_arg3 (show (fun a => win0_3.index (0 : Fin 1) a * main_arg3.ty.shape.size a) = fun _ => 0 from funext fun a => by fin_cases a <;> decide) (fun a => by fin_cases a <;> decide) (m ((c : Thread nD τ).loc main_arg3))

/-- and of the shared expert. -/
theorem shV_eq (c : Dev nD) : shV m c = m ((c : Thread nD τ).loc main_arg4) := by
  show (win0_4.blk (0 : Fin 1)).view.read (Elt F) (m ((c : Thread nD τ).loc main_arg4)) = _
  exact Memref.read_access_unit_zero (Elt F) main_arg4 (show (fun a => win0_4.index (0 : Fin 1) a * main_arg4.ty.shape.size a) = fun _ => 0 from funext fun a => by fin_cases a <;> decide) (fun a => by fin_cases a <;> decide) (m ((c : Thread nD τ).loc main_arg4))

/-- The result array ends as the body left its staging buffer. -/
theorem final_out (c : Dev nD) : finalA m ρ c (5 : Fin 6) = OUT m c := by
  have hr : (win0_5.blk (0 : Fin 1)).view.read (Elt F) (finalA m ρ c (5 : Fin 6)) = OUT m c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  exact (Memref.read_access_unit_zero (Elt F) main_v1 (show (fun a => win0_5.index (0 : Fin 1) a * main_v1.ty.shape.size a) = fun _ => 0 from funext fun a => by fin_cases a <;> decide)
    (fun a => by fin_cases a <;> decide) _).symm.trans hr

end Whole

/-! ## The claim -/

/-- A device's four experts are its four of all 128. -/
theorem block_expert (W : (⟨3, ![128, 256, 512]⟩ : Shape).Idx → EReal) (e : Dev nD) (j : Fin 4) (d : Fin 256) (f : Fin 512) :
    (Layout.block ⟨3, ![4, 256, 512]⟩ ⟨3, ![128, 256, 512]⟩ 0 32 e W) (ix3 j d f)
      = W (ix3 ⟨4 * e.val + j.val, by have := e.isLt; have : nD = 32 := rfl; omega⟩ d f) := by
  refine congrArg W (funext fun a => Fin.ext ?_)
  rw [Layout.Tiles.idx_val]
  match a with
  | ⟨0, _⟩ => exact congrArg (· + j.val) (Nat.mul_comm e.val 4)
  | ⟨1, _⟩ => rfl
  | ⟨2, _⟩ => rfl

/-- Every device ends with the reference's result when its arguments are the reference's and its experts its block. -/
theorem out_eq (m : (ℓ : Loc nD τ sig) → Buf (Elt Ideal) ℓ) (X : FVec Ideal S1024x256 .bf16) (R : FVec Ideal S256x128 .bf16)
    (I : IVec S1024x1 32) (W : FVec Ideal Cert.ReferenceIdeal.S128x256x512 .bf16) (S : FVec Ideal S256x512 .bf16)
    (hX : ∀ c, xV m c = X) (hR : ∀ c, wrV m c = R) (hI : ∀ c, ixV m c = I)
    (hW : ∀ c, exV m c = Layout.block ⟨3, ![4, 256, 512]⟩ ⟨3, ![128, 256, 512]⟩ 0 32 c W) (hS : ∀ c, shV m c = S) (c : Dev nD) :
    OUT m c = Ref.result X R I W S := by
  funext i
  obtain ⟨r, f, rfl⟩ : ∃ (r : Fin 1024) (f : Fin 512), i = ix2 r f := ⟨i 0, i 1, eq_ix2 i⟩
  rw [OUT_apply, Ref.result_apply]
  have ht : ∀ e, tok' m e r = fun d => X (ix2 r d) := fun e => funext fun d => congrFun (hX e) _
  have hp : ∀ e, prob m e r = soft (score (fun d => X (ix2 r d)) fun d k => R (ix2 d k)) := fun e => by
    unfold prob; rw [ht, hR]
  refine congrArg₂ (fun a b : EReal => a + b) (by rw [ht, hS]) ?_
  simp only [ht, hp, hI, hW, block_expert]
  refine (sum_picks (I (ix2 r 0)) _ (fun e j => line (fun d => X (ix2 r d)) (fun d f =>
      W (ix3 ⟨4 * e.val + j.val, by have := e.isLt; omega⟩ d f)) f) expN expN_eq).trans ?_
  split
  · rename_i h
    unfold gate
    rw [dif_pos h]
    refine congrArg (fun k => soft (score (fun d => X (ix2 r d)) fun d k => R (ix2 d k)) ⟨(I (ix2 r 0)).toNat, h⟩
      * line (fun d => X (ix2 r d)) (fun d f => W (ix3 k d f)) f) (Fin.ext ?_)
    show 4 * ((I (ix2 r 0)).toNat / 4) + (I (ix2 r 0)).toNat % 4 = (I (ix2 r 0)).toNat
    omega
  · rfl

/-- On the extended reals, every device's result is the reference's, and the arguments are kept. -/
theorem algebraic : Cert.algebraic_KernelIdeal_ReferenceIdeal := by
  intro m g m' g' _ hagree
  refine ⟨Cert.ReferenceIdeal.Value.res_out0 m' 0, ?_, ?_⟩
  · refine (θ_run Cert.KernelIdeal.defs _ _).mono (fun r h c => ⟨((h.1 c (5 : Fin 6)).trans (final_out m g c)).trans ?_, args_kept m g h.1 c⟩)
      (run_main m g)
    refine (out_eq m _ _ _ _ _ (fun c => (xV_eq m c).trans (hagree c).1) (fun c => (wrV_eq m c).trans (hagree c).2.1)
      (fun c => (ixV_eq m c).trans (hagree c).2.2.1) (fun c => (exV_eq m c).trans (hagree c).2.2.2.1)
      (fun c => (shV_eq m c).trans (hagree c).2.2.2.2) c).trans (Ref.out_eq m' 0).symm
  · exact (θ_run Cert.ReferenceIdeal.defs _ _).mono (fun r h => h 0) (Cert.ReferenceIdeal.Value.run (F := Ideal) m' g')

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel and its ideal reading run, leave their arguments and end with their counters at zero, and so does the
    reference; the ideal reading is the kernel; and on the extended reals every device's result is the reference's. -/
theorem claim : Cert.Claim := ⟨Cert.Kernel.Gen.facts, Cert.KernelIdeal.Gen.facts, Cert.ReferenceIdeal.Gen.facts,
  Cert.MoeProof.frame_kernel, Cert.MoeProof.frame_ideal, Cert.MoeProof.frame_ref, trivial, Cert.MoeProof.algebraic⟩

end Cert.Proof

end
